-- ==== Defs.lean ====
def Pre_Kernel [hPre_rows_ok : Cert.Pre_rows_ok.Facts] (m : (ℓ : Loc Cert.Kernel.nD Cert.Kernel.τ Cert.Kernel.sig) → Buf (Elt Bits) ℓ) : Prop :=
  ∀ c : Dev Cert.Kernel.nD,
    (Cert.Pre_rows_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_rows_ok : Cert.Pre_rows_ok.Facts] (m : (ℓ : Loc Cert.KernelIdeal.nD Cert.KernelIdeal.τ Cert.KernelIdeal.sig) → Buf (Elt Ideal) ℓ) : Prop :=
  ∀ c : Dev Cert.KernelIdeal.nD,
    (Cert.Pre_rows_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_rows_ok : Cert.Pre_rows_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_rows_ok : Cert.Pre_rows_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "s" .f32 0x3BA3D70A#32 ((200⁻¹ : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_rows_ok : Cert.Pre_rows_ok.Facts) (hPre_inputs_ok : Cert.Pre_inputs_ok.Facts),
    quiescent_Kernel (hKernel := hKernel) (hPre_rows_ok := hPre_rows_ok)
    ∧ quiescent_KernelIdeal (hKernelIdeal := hKernelIdeal) (hPre_rows_ok := hPre_rows_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S1024 : Shape := ⟨1, ![1024]⟩
abbrev S1024x200 : Shape := ⟨2, ![1024, 200]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x200 : S_.BroadcastsInDim S1024x200 (![] : Fin 0 → Fin S1024x200.rank)
  reducesTo_S1024x200_S_d0_1 : S1024x200.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S1024 32) (main_arg1 : IVec S1024x200 32) (main_arg2 : FVec F S1024x200 .f32) (main_arg3 : FVec F S100000x128 .f32) (main_arg4 : FVec F S100000x128 .f32) (main_arg5 : FVec F S128x128 .f32) (main_arg6 : FVec F S128 .f32) (main_arg7 : FVec F S128x128 .f32) (main_arg8 : FVec F S128 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_c_2 : IVec S_ 32 := constantI S_ 32 0#32
  let main_v6 : IVec S1024x200 32 := broadcastInDim S1024x200 ![] bcast_S_S1024x200 main_c_2
  let main_v7 : IVec S1024x200 1 := cmpi .sge main_arg1 main_v6
  let main_c_3 : IVec S_ 32 := constantI S_ 32 100000#32
  let main_v8 : IVec S1024x200 32 := broadcastInDim S1024x200 ![] bcast_S_S1024x200 main_c_3
  let main_v9 : IVec S1024x200 1 := cmpi .slt main_arg1 main_v8
  let main_v10 : IVec S1024x200 1 := andi main_v7 main_v9
  let main_c_4 : IVec S_ 1 := constantI S_ 1 1#1
  let main_v11 : IVec S_ 1 := (fun x v => Host.reduce IntOp.andi x v reducesTo_S1024x200_S_d0_1 h_S_) main_v10 main_c_4
  let main_v12 : IVec S_ 1 := andi main_v5 main_v11
  let main_cst : FVec F S_ .f32 := constant S_ .f32 0x3F800000#32
  let main_v13 : FVec F S1024x200 .f32 := broadcastInDim S1024x200 ![] bcast_S_S1024x200 main_cst
  let main_v14 : IVec S1024x200 1 := cmpf .oeq main_arg2 main_v13
  let main_c_5 : IVec S_ 1 := constantI S_ 1 1#1
  let main_v15 : IVec S_ 1 := (fun x v => Host.reduce IntOp.andi x v reducesTo_S1024x200_S_d0_1 h_S_) main_v14 main_c_5
  fn_part1 (F := F) main_v12 main_v15
-- ==== Pre_rows_ok.lean ====
abbrev S1024 : Shape := ⟨1, ![1024]⟩
abbrev S1024x200 : Shape := ⟨2, ![1024, 200]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x200 : S_.BroadcastsInDim S1024x200 (![] : Fin 0 → Fin S1024x200.rank)
  reducesTo_S1024x200_S_d0_1 : S1024x200.ReducesTo [0, 1] S_

variable [Facts]

def fn {F : FTy → Type} [FloatOps F] (main_arg0 : IVec S1024 32) (main_arg1 : IVec S1024x200 32) (main_arg2 : FVec F S1024x200 .f32) (main_arg3 : FVec F S100000x128 .f32) (main_arg4 : FVec F S100000x128 .f32) (main_arg5 : FVec F S128x128 .f32) (main_arg6 : FVec F S128 .f32) (main_arg7 : FVec F S128x128 .f32) (main_arg8 : FVec F S128 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_c_2 : IVec S_ 32 := constantI S_ 32 0#32
  let main_v6 : IVec S1024x200 32 := broadcastInDim S1024x200 ![] bcast_S_S1024x200 main_c_2
  let main_v7 : IVec S1024x200 1 := cmpi .sge main_arg1 main_v6
  let main_c_3 : IVec S_ 32 := constantI S_ 32 100000#32
  let main_v8 : IVec S1024x200 32 := broadcastInDim S1024x200 ![] bcast_S_S1024x200 main_c_3
  let main_v9 : IVec S1024x200 1 := cmpi .slt main_arg1 main_v8
  let main_v10 : IVec S1024x200 1 := andi main_v7 main_v9
  let main_c_4 : IVec S_ 1 := constantI S_ 1 1#1
  let main_v11 : IVec S_ 1 := (fun x v => Host.reduce IntOp.andi x v reducesTo_S1024x200_S_d0_1 h_S_) main_v10 main_c_4
  let main_v12 : IVec S_ 1 := andi main_v5 main_v11
  main_v12
-- ==== Kernel.lean ====
abbrev S1024 : Shape := ⟨1, ![1024]⟩
abbrev S1024x200 : Shape := ⟨2, ![1024, 200]⟩
abbrev S100000x128 : Shape := ⟨2, ![100000, 128]⟩
abbrev S128x128 : Shape := ⟨2, ![128, 128]⟩
abbrev S128 : Shape := ⟨1, ![128]⟩
abbrev S2048x100 : Shape := ⟨2, ![2048, 100]⟩
abbrev S1024x128 : Shape := ⟨2, ![1024, 128]⟩
abbrev S32 : Shape := ⟨1, ![32]⟩
abbrev S64x100 : Shape := ⟨2, ![64, 100]⟩
abbrev S32x128 : Shape := ⟨2, ![32, 128]⟩
abbrev S100x128 : Shape := ⟨2, ![100, 128]⟩
abbrev S_ : Shape := ⟨0, ![]⟩
abbrev S16 : Shape := ⟨1, ![16]⟩
abbrev S1x100 : Shape := ⟨2, ![1, 100]⟩
abbrev S100 : Shape := ⟨1, ![100]⟩
abbrev S1x16 : Shape := ⟨2, ![1, 16]⟩
abbrev S1x128 : Shape := ⟨2, ![1, 128]⟩
abbrev S1024x1 : Shape := ⟨2, ![1024, 1]⟩

abbrev nBuf : Table → Nat
  | .hbm => 14
  | .local .tc .vmem => 6
  | .local .scVector .vmem => 8
  | _ => 0

abbrev bufTy : (tb : Table) → Fin (nBuf tb) → BufTy
  | .hbm, ⟨0, _⟩ => ⟨S1024, .i32⟩
  | .hbm, ⟨1, _⟩ => ⟨S1024x200, .i32⟩
  | .hbm, ⟨2, _⟩ => ⟨S1024x200, .f32⟩
  | .hbm, ⟨3, _⟩ => ⟨S100000x128, .f32⟩
  | .hbm, ⟨4, _⟩ => ⟨S100000x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S2048x100, .i32⟩
  | .hbm, ⟨10, _⟩ => ⟨S1024x128, .f32⟩
  | .hbm, ⟨11, _⟩ => ⟨S1x128, .f32⟩
  | .hbm, ⟨12, _⟩ => ⟨S1x128, .f32⟩
  | .hbm, ⟨13, _⟩ => ⟨S1024x128, .f32⟩
  | .local .tc .vmem, ⟨0, _⟩ => ⟨S1024x128, .f32⟩
  | .local .tc .vmem, ⟨1, _⟩ => ⟨S128x128, .f32⟩
  | .local .tc .vmem, ⟨2, _⟩ => ⟨S1x128, .f32⟩
  | .local .tc .vmem, ⟨3, _⟩ => ⟨S128x128, .f32⟩
  | .local .tc .vmem, ⟨4, _⟩ => ⟨S1x128, .f32⟩
  | .local .tc .vmem, ⟨5, _⟩ => ⟨S1024x128, .f32⟩
  | .local .scVector .vmem, ⟨0, _⟩ => ⟨S32, .i32⟩
  | .local .scVector .vmem, ⟨1, _⟩ => ⟨S64x100, .i32⟩
  | .local .scVector .vmem, ⟨2, _⟩ => ⟨S32x128, .f32⟩
  | .local .scVector .vmem, ⟨3, _⟩ => ⟨S100x128, .f32⟩
  | .local .scVector .vmem, ⟨4, _⟩ => ⟨S100x128, .f32⟩
  | .local .scVector .vmem, ⟨5, _⟩ => ⟨S100x128, .f32⟩
  | .local .scVector .vmem, ⟨6, _⟩ => ⟨S100x128, .f32⟩
  | .local .scVector .vmem, ⟨7, _⟩ => ⟨S32x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_arg0_scv : Ref sig .scVector := ⟨.hbm, 0, rfl⟩
abbrev main_v0_scv : Ref sig .scVector := ⟨.hbm, 9, rfl⟩
abbrev main_arg3_scv : Ref sig .scVector := ⟨.hbm, 3, rfl⟩
abbrev main_arg4_scv : Ref sig .scVector := ⟨.hbm, 4, rfl⟩
abbrev main_v1_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.muli c2_i32_0 v2
  let c0_i32 : BitVec 32 := 0#32
  ![v3.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
@[reducible] def k0_t1_loop : Scf.Loop 32 :=
  let c0_i32_16 : BitVec 32 := 0#32
  let c16_i32 : BitVec 32 := 16#32
  let v17 : BitVec 32 := Scalar.addi c0_i32_16 c16_i32
  let c1_i32_17 : BitVec 32 := 1#32
  ⟨c0_i32_16, v17, c1_i32_17⟩
def k0_off3 (k0_t1 : Fin k0_t1_loop.trips) : Fin 2 → Nat :=
  let c2_i32_21 : BitVec 32 := 2#32
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let c1_i32_20 : BitVec 32 := 1#32
  let v19 : BitVec 32 := Scalar.addi v18 c1_i32_20
  let v20 : BitVec 32 := Scalar.muli c2_i32_21 v19
  let c0_i32_22 : BitVec 32 := 0#32
  ![v20.toNat, 0]
def k0_off4 (k0_t1 : Fin k0_t1_loop.trips) : Fin 2 → Nat :=
  let c2_i32_25 : BitVec 32 := 2#32
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let c1_i32_20 : BitVec 32 := 1#32
  let v19 : BitVec 32 := Scalar.addi v18 c1_i32_20
  let v24 : BitVec 32 := Scalar.muli c2_i32_25 v19
  let c1_i32_26 : BitVec 32 := 1#32
  let v25 : BitVec 32 := Scalar.addi v24 c1_i32_26
  let c0_i32_27 : BitVec 32 := 0#32
  ![v25.toNat, 0]
def k0_off5 (k0_t1 : Fin k0_t1_loop.trips) : Fin 2 → Nat :=
  let c2_i32_30 : BitVec 32 := 2#32
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let v29 : BitVec 32 := Scalar.muli c2_i32_30 v18
  let c0_i32_31 : BitVec 32 := 0#32
  ![v29.toNat, 0]
@[reducible] def k0_t2_loop : Scf.Loop 32 :=
  let c0_i32_42 : BitVec 32 := 0#32
  let c100_i32 : BitVec 32 := 100#32
  let v41 : BitVec 32 := Scalar.addi c0_i32_42 c100_i32
  let c1_i32_43 : BitVec 32 := 1#32
  ⟨c0_i32_42, v41, c1_i32_43⟩
def k0_off6 (k0_t2 : Fin k0_t2_loop.trips) : Fin 2 → Nat :=
  let c0_i32_42 : BitVec 32 := 0#32
  let c1_i32_43 : BitVec 32 := 1#32
  let arg22 : BitVec 32 := Scf.iv c0_i32_42 c1_i32_43 k0_t2
  let v219 : Index := Scalar.indexCast arg22
  let c0_105 : Index := 0#32
  ![v219.toNat, 0]
def k0_off7 (k0_t2 : Fin k0_t2_loop.trips) : Fin 2 → Nat :=
  let c0_i32_42 : BitVec 32 := 0#32
  let c1_i32_43 : BitVec 32 := 1#32
  let arg22 : BitVec 32 := Scf.iv c0_i32_42 c1_i32_43 k0_t2
  let v223 : Index := Scalar.indexCast arg22
  let c16_106 : Index := 16#32
  ![v223.toNat, 16]
def k0_off8 (k0_t2 : Fin k0_t2_loop.trips) : Fin 2 → Nat :=
  let c0_i32_42 : BitVec 32 := 0#32
  let c1_i32_43 : BitVec 32 := 1#32
  let arg22 : BitVec 32 := Scf.iv c0_i32_42 c1_i32_43 k0_t2
  let v227 : Index := Scalar.indexCast arg22
  let c32_107 : Index := 32#32
  ![v227.toNat, 32]
def k0_off9 (k0_t2 : Fin k0_t2_loop.trips) : Fin 2 → Nat :=
  let c0_i32_42 : BitVec 32 := 0#32
  let c1_i32_43 : BitVec 32 := 1#32
  let arg22 : BitVec 32 := Scf.iv c0_i32_42 c1_i32_43 k0_t2
  let v231 : Index := Scalar.indexCast arg22
  let c48_108 : Index := 48#32
  ![v231.toNat, 48]
def k0_off10 (k0_t2 : Fin k0_t2_loop.trips) : Fin 2 → Nat :=
  let c0_i32_42 : BitVec 32 := 0#32
  let c1_i32_43 : BitVec 32 := 1#32
  let arg22 : BitVec 32 := Scf.iv c0_i32_42 c1_i32_43 k0_t2
  let v235 : Index := Scalar.indexCast arg22
  let c64_109 : Index := 64#32
  ![v235.toNat, 64]
def k0_off11 (k0_t2 : Fin k0_t2_loop.trips) : Fin 2 → Nat :=
  let c0_i32_42 : BitVec 32 := 0#32
  let c1_i32_43 : BitVec 32 := 1#32
  let arg22 : BitVec 32 := Scf.iv c0_i32_42 c1_i32_43 k0_t2
  let v239 : Index := Scalar.indexCast arg22
  let c80_110 : Index := 80#32
  ![v239.toNat, 80]
def k0_off12 (k0_t2 : Fin k0_t2_loop.trips) : Fin 2 → Nat :=
  let c0_i32_42 : BitVec 32 := 0#32
  let c1_i32_43 : BitVec 32 := 1#32
  let arg22 : BitVec 32 := Scf.iv c0_i32_42 c1_i32_43 k0_t2
  let v243 : Index := Scalar.indexCast arg22
  let c96_111 : Index := 96#32
  ![v243.toNat, 96]
def k0_off13 (k0_t2 : Fin k0_t2_loop.trips) : Fin 2 → Nat :=
  let c0_i32_42 : BitVec 32 := 0#32
  let c1_i32_43 : BitVec 32 := 1#32
  let arg22 : BitVec 32 := Scf.iv c0_i32_42 c1_i32_43 k0_t2
  let v247 : Index := Scalar.indexCast arg22
  let c112_112 : Index := 112#32
  ![v247.toNat, 112]
def k0_off14 (k0_t1 : Fin k0_t1_loop.trips) : Fin 2 → Nat :=
  let c2_i32_45 : BitVec 32 := 2#32
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let v43 : BitVec 32 := Scalar.muli c2_i32_45 v18
  let c1_i32_46 : BitVec 32 := 1#32
  let v44 : BitVec 32 := Scalar.addi v43 c1_i32_46
  let c0_i32_47 : BitVec 32 := 0#32
  ![v44.toNat, 0]
@[reducible] def k0_t3_loop : Scf.Loop 32 :=
  let c0_i32_50 : BitVec 32 := 0#32
  let c100_i32_51 : BitVec 32 := 100#32
  let v48 : BitVec 32 := Scalar.addi c0_i32_50 c100_i32_51
  let c1_i32_52 : BitVec 32 := 1#32
  ⟨c0_i32_50, v48, c1_i32_52⟩
def k0_off15 (k0_t3 : Fin k0_t3_loop.trips) : Fin 2 → Nat :=
  let c0_i32_50 : BitVec 32 := 0#32
  let c1_i32_52 : BitVec 32 := 1#32
  let arg22 : BitVec 32 := Scf.iv c0_i32_50 c1_i32_52 k0_t3
  let v219 : Index := Scalar.indexCast arg22
  let c0_105 : Index := 0#32
  ![v219.toNat, 0]
def k0_off16 (k0_t3 : Fin k0_t3_loop.trips) : Fin 2 → Nat :=
  let c0_i32_50 : BitVec 32 := 0#32
  let c1_i32_52 : BitVec 32 := 1#32
  let arg22 : BitVec 32 := Scf.iv c0_i32_50 c1_i32_52 k0_t3
  let v223 : Index := Scalar.indexCast arg22
  let c16_106 : Index := 16#32
  ![v223.toNat, 16]
def k0_off17 (k0_t3 : Fin k0_t3_loop.trips) : Fin 2 → Nat :=
  let c0_i32_50 : BitVec 32 := 0#32
  let c1_i32_52 : BitVec 32 := 1#32
  let arg22 : BitVec 32 := Scf.iv c0_i32_50 c1_i32_52 k0_t3
  let v227 : Index := Scalar.indexCast arg22
  let c32_107 : Index := 32#32
  ![v227.toNat, 32]
def k0_off18 (k0_t3 : Fin k0_t3_loop.trips) : Fin 2 → Nat :=
  let c0_i32_50 : BitVec 32 := 0#32
  let c1_i32_52 : BitVec 32 := 1#32
  let arg22 : BitVec 32 := Scf.iv c0_i32_50 c1_i32_52 k0_t3
  let v231 : Index := Scalar.indexCast arg22
  let c48_108 : Index := 48#32
  ![v231.toNat, 48]
def k0_off19 (k0_t3 : Fin k0_t3_loop.trips) : Fin 2 → Nat :=
  let c0_i32_50 : BitVec 32 := 0#32
  let c1_i32_52 : BitVec 32 := 1#32
  let arg22 : BitVec 32 := Scf.iv c0_i32_50 c1_i32_52 k0_t3
  let v235 : Index := Scalar.indexCast arg22
  let c64_109 : Index := 64#32
  ![v235.toNat, 64]
def k0_off20 (k0_t3 : Fin k0_t3_loop.trips) : Fin 2 → Nat :=
  let c0_i32_50 : BitVec 32 := 0#32
  let c1_i32_52 : BitVec 32 := 1#32
  let arg22 : BitVec 32 := Scf.iv c0_i32_50 c1_i32_52 k0_t3
  let v239 : Index := Scalar.indexCast arg22
  let c80_110 : Index := 80#32
  ![v239.toNat, 80]
def k0_off21 (k0_t3 : Fin k0_t3_loop.trips) : Fin 2 → Nat :=
  let c0_i32_50 : BitVec 32 := 0#32
  let c1_i32_52 : BitVec 32 := 1#32
  let arg22 : BitVec 32 := Scf.iv c0_i32_50 c1_i32_52 k0_t3
  let v243 : Index := Scalar.indexCast arg22
  let c96_111 : Index := 96#32
  ![v243.toNat, 96]
def k0_off22 (k0_t3 : Fin k0_t3_loop.trips) : Fin 2 → Nat :=
  let c0_i32_50 : BitVec 32 := 0#32
  let c1_i32_52 : BitVec 32 := 1#32
  let arg22 : BitVec 32 := Scf.iv c0_i32_50 c1_i32_52 k0_t3
  let v247 : Index := Scalar.indexCast arg22
  let c112_112 : Index := 112#32
  ![v247.toNat, 112]
def k0_off23 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let v50 : Index := Scalar.indexCast v18
  let c0 : Index := 0#32
  ![v50.toNat, 0]
def k0_off24 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let v59 : Index := Scalar.indexCast v18
  let c16 : Index := 16#32
  ![v59.toNat, 16]
def k0_off25 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let v68 : Index := Scalar.indexCast v18
  let c32 : Index := 32#32
  ![v68.toNat, 32]
def k0_off26 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let v77 : Index := Scalar.indexCast v18
  let c48 : Index := 48#32
  ![v77.toNat, 48]
def k0_off27 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let v86 : Index := Scalar.indexCast v18
  let c64 : Index := 64#32
  ![v86.toNat, 64]
def k0_off28 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let v95 : Index := Scalar.indexCast v18
  let c80 : Index := 80#32
  ![v95.toNat, 80]
def k0_off29 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let v104 : Index := Scalar.indexCast v18
  let c96 : Index := 96#32
  ![v104.toNat, 96]
def k0_off30 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let v113 : Index := Scalar.indexCast v18
  let c112 : Index := 112#32
  ![v113.toNat, 112]
def k0_cond1 (k0_t1 : Fin k0_t1_loop.trips) : BitVec 1 :=
  let c0_i32_16 : BitVec 32 := 0#32
  let c1_i32_17 : BitVec 32 := 1#32
  let arg21 : BitVec 32 := Scf.iv c0_i32_16 c1_i32_17 k0_t1
  let c15_i32 : BitVec 32 := 15#32
  let v122 : BitVec 1 := Scalar.cmpi .slt arg21 c15_i32
  let v123 : BitVec 32 := Scalar.extui v122
  let c0_i32_62 : BitVec 32 := 0#32
  let v124 : BitVec 1 := Scalar.cmpi .ne v123 c0_i32_62
  v124

def k0_off31 (k0_t1 : Fin k0_t1_loop.trips) : Fin 2 → Nat :=
  let c2_i32_106 : BitVec 32 := 2#32
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let c2_i32_105 : BitVec 32 := 2#32
  let v219 : BitVec 32 := Scalar.addi v18 c2_i32_105
  let v220 : BitVec 32 := Scalar.muli c2_i32_106 v219
  let c0_i32_107 : BitVec 32 := 0#32
  ![v220.toNat, 0]
def k0_off32 (k0_t1 : Fin k0_t1_loop.trips) : Fin 2 → Nat :=
  let c2_i32_110 : BitVec 32 := 2#32
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let c2_i32_105 : BitVec 32 := 2#32
  let v219 : BitVec 32 := Scalar.addi v18 c2_i32_105
  let v224 : BitVec 32 := Scalar.muli c2_i32_110 v219
  let c1_i32_111 : BitVec 32 := 1#32
  let v225 : BitVec 32 := Scalar.addi v224 c1_i32_111
  let c0_i32_112 : BitVec 32 := 0#32
  ![v225.toNat, 0]
@[reducible] def k0_t4_loop : Scf.Loop 32 :=
  let c0_i32_76 : BitVec 32 := 0#32
  let c100_i32_77 : BitVec 32 := 100#32
  let v138 : BitVec 32 := Scalar.addi c0_i32_76 c100_i32_77
  let c1_i32_78 : BitVec 32 := 1#32
  ⟨c0_i32_76, v138, c1_i32_78⟩
def k0_off33 (k0_t4 : Fin k0_t4_loop.trips) : Fin 2 → Nat :=
  let c0_i32_76 : BitVec 32 := 0#32
  let c1_i32_78 : BitVec 32 := 1#32
  let arg22 : BitVec 32 := Scf.iv c0_i32_76 c1_i32_78 k0_t4
  let v219 : Index := Scalar.indexCast arg22
  let c0_105 : Index := 0#32
  ![v219.toNat, 0]
def k0_off34 (k0_t4 : Fin k0_t4_loop.trips) : Fin 2 → Nat :=
  let c0_i32_76 : BitVec 32 := 0#32
  let c1_i32_78 : BitVec 32 := 1#32
  let arg22 : BitVec 32 := Scf.iv c0_i32_76 c1_i32_78 k0_t4
  let v223 : Index := Scalar.indexCast arg22
  let c16_106 : Index := 16#32
  ![v223.toNat, 16]
def k0_off35 (k0_t4 : Fin k0_t4_loop.trips) : Fin 2 → Nat :=
  let c0_i32_76 : BitVec 32 := 0#32
  let c1_i32_78 : BitVec 32 := 1#32
  let arg22 : BitVec 32 := Scf.iv c0_i32_76 c1_i32_78 k0_t4
  let v227 : Index := Scalar.indexCast arg22
  let c32_107 : Index := 32#32
  ![v227.toNat, 32]
def k0_off36 (k0_t4 : Fin k0_t4_loop.trips) : Fin 2 → Nat :=
  let c0_i32_76 : BitVec 32 := 0#32
  let c1_i32_78 : BitVec 32 := 1#32
  let arg22 : BitVec 32 := Scf.iv c0_i32_76 c1_i32_78 k0_t4
  let v231 : Index := Scalar.indexCast arg22
  let c48_108 : Index := 48#32
  ![v231.toNat, 48]
def k0_off37 (k0_t4 : Fin k0_t4_loop.trips) : Fin 2 → Nat :=
  let c0_i32_76 : BitVec 32 := 0#32
  let c1_i32_78 : BitVec 32 := 1#32
  let arg22 : BitVec 32 := Scf.iv c0_i32_76 c1_i32_78 k0_t4
  let v235 : Index := Scalar.indexCast arg22
  let c64_109 : Index := 64#32
  ![v235.toNat, 64]
def k0_off38 (k0_t4 : Fin k0_t4_loop.trips) : Fin 2 → Nat :=
  let c0_i32_76 : BitVec 32 := 0#32
  let c1_i32_78 : BitVec 32 := 1#32
  let arg22 : BitVec 32 := Scf.iv c0_i32_76 c1_i32_78 k0_t4
  let v239 : Index := Scalar.indexCast arg22
  let c80_110 : Index := 80#32
  ![v239.toNat, 80]
def k0_off39 (k0_t4 : Fin k0_t4_loop.trips) : Fin 2 → Nat :=
  let c0_i32_76 : BitVec 32 := 0#32
  let c1_i32_78 : BitVec 32 := 1#32
  let arg22 : BitVec 32 := Scf.iv c0_i32_76 c1_i32_78 k0_t4
  let v243 : Index := Scalar.indexCast arg22
  let c96_111 : Index := 96#32
  ![v243.toNat, 96]
def k0_off40 (k0_t4 : Fin k0_t4_loop.trips) : Fin 2 → Nat :=
  let c0_i32_76 : BitVec 32 := 0#32
  let c1_i32_78 : BitVec 32 := 1#32
  let arg22 : BitVec 32 := Scf.iv c0_i32_76 c1_i32_78 k0_t4
  let v247 : Index := Scalar.indexCast arg22
  let c112_112 : Index := 112#32
  ![v247.toNat, 112]
@[reducible] def k0_t5_loop : Scf.Loop 32 :=
  let c0_i32_85 : BitVec 32 := 0#32
  let c100_i32_86 : BitVec 32 := 100#32
  let v145 : BitVec 32 := Scalar.addi c0_i32_85 c100_i32_86
  let c1_i32_87 : BitVec 32 := 1#32
  ⟨c0_i32_85, v145, c1_i32_87⟩
def k0_off41 (k0_t5 : Fin k0_t5_loop.trips) : Fin 2 → Nat :=
  let c0_i32_85 : BitVec 32 := 0#32
  let c1_i32_87 : BitVec 32 := 1#32
  let arg22 : BitVec 32 := Scf.iv c0_i32_85 c1_i32_87 k0_t5
  let v219 : Index := Scalar.indexCast arg22
  let c0_105 : Index := 0#32
  ![v219.toNat, 0]
def k0_off42 (k0_t5 : Fin k0_t5_loop.trips) : Fin 2 → Nat :=
  let c0_i32_85 : BitVec 32 := 0#32
  let c1_i32_87 : BitVec 32 := 1#32
  let arg22 : BitVec 32 := Scf.iv c0_i32_85 c1_i32_87 k0_t5
  let v223 : Index := Scalar.indexCast arg22
  let c16_106 : Index := 16#32
  ![v223.toNat, 16]
def k0_off43 (k0_t5 : Fin k0_t5_loop.trips) : Fin 2 → Nat :=
  let c0_i32_85 : BitVec 32 := 0#32
  let c1_i32_87 : BitVec 32 := 1#32
  let arg22 : BitVec 32 := Scf.iv c0_i32_85 c1_i32_87 k0_t5
  let v227 : Index := Scalar.indexCast arg22
  let c32_107 : Index := 32#32
  ![v227.toNat, 32]
def k0_off44 (k0_t5 : Fin k0_t5_loop.trips) : Fin 2 → Nat :=
  let c0_i32_85 : BitVec 32 := 0#32
  let c1_i32_87 : BitVec 32 := 1#32
  let arg22 : BitVec 32 := Scf.iv c0_i32_85 c1_i32_87 k0_t5
  let v231 : Index := Scalar.indexCast arg22
  let c48_108 : Index := 48#32
  ![v231.toNat, 48]
def k0_off45 (k0_t5 : Fin k0_t5_loop.trips) : Fin 2 → Nat :=
  let c0_i32_85 : BitVec 32 := 0#32
  let c1_i32_87 : BitVec 32 := 1#32
  let arg22 : BitVec 32 := Scf.iv c0_i32_85 c1_i32_87 k0_t5
  let v235 : Index := Scalar.indexCast arg22
  let c64_109 : Index := 64#32
  ![v235.toNat, 64]
def k0_off46 (k0_t5 : Fin k0_t5_loop.trips) : Fin 2 → Nat :=
  let c0_i32_85 : BitVec 32 := 0#32
  let c1_i32_87 : BitVec 32 := 1#32
  let arg22 : BitVec 32 := Scf.iv c0_i32_85 c1_i32_87 k0_t5
  let v239 : Index := Scalar.indexCast arg22
  let c80_110 : Index := 80#32
  ![v239.toNat, 80]
def k0_off47 (k0_t5 : Fin k0_t5_loop.trips) : Fin 2 → Nat :=
  let c0_i32_85 : BitVec 32 := 0#32
  let c1_i32_87 : BitVec 32 := 1#32
  let arg22 : BitVec 32 := Scf.iv c0_i32_85 c1_i32_87 k0_t5
  let v243 : Index := Scalar.indexCast arg22
  let c96_111 : Index := 96#32
  ![v243.toNat, 96]
def k0_off48 (k0_t5 : Fin k0_t5_loop.trips) : Fin 2 → Nat :=
  let c0_i32_85 : BitVec 32 := 0#32
  let c1_i32_87 : BitVec 32 := 1#32
  let arg22 : BitVec 32 := Scf.iv c0_i32_85 c1_i32_87 k0_t5
  let v247 : Index := Scalar.indexCast arg22
  let c112_112 : Index := 112#32
  ![v247.toNat, 112]
def k0_off49 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let c1_i32_63 : BitVec 32 := 1#32
  let v125 : BitVec 32 := Scalar.addi v18 c1_i32_63
  let v147 : Index := Scalar.indexCast v125
  let c0_89 : Index := 0#32
  ![v147.toNat, 0]
def k0_off50 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let c1_i32_63 : BitVec 32 := 1#32
  let v125 : BitVec 32 := Scalar.addi v18 c1_i32_63
  let v156 : Index := Scalar.indexCast v125
  let c16_91 : Index := 16#32
  ![v156.toNat, 16]
def k0_off51 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let c1_i32_63 : BitVec 32 := 1#32
  let v125 : BitVec 32 := Scalar.addi v18 c1_i32_63
  let v165 : Index := Scalar.indexCast v125
  let c32_93 : Index := 32#32
  ![v165.toNat, 32]
def k0_off52 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let c1_i32_63 : BitVec 32 := 1#32
  let v125 : BitVec 32 := Scalar.addi v18 c1_i32_63
  let v174 : Index := Scalar.indexCast v125
  let c48_95 : Index := 48#32
  ![v174.toNat, 48]
def k0_off53 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let c1_i32_63 : BitVec 32 := 1#32
  let v125 : BitVec 32 := Scalar.addi v18 c1_i32_63
  let v183 : Index := Scalar.indexCast v125
  let c64_97 : Index := 64#32
  ![v183.toNat, 64]
def k0_off54 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let c1_i32_63 : BitVec 32 := 1#32
  let v125 : BitVec 32 := Scalar.addi v18 c1_i32_63
  let v192 : Index := Scalar.indexCast v125
  let c80_99 : Index := 80#32
  ![v192.toNat, 80]
def k0_off55 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let c1_i32_63 : BitVec 32 := 1#32
  let v125 : BitVec 32 := Scalar.addi v18 c1_i32_63
  let v201 : Index := Scalar.indexCast v125
  let c96_101 : Index := 96#32
  ![v201.toNat, 96]
def k0_off56 (k0_t1 : Fin k0_t1_loop.trips) : Fin 2 → Nat :=
  let c2_i32_19 : BitVec 32 := 2#32
  let c0_i32_16 : BitVec 32 := 0#32
  let c1_i32_17 : BitVec 32 := 1#32
  let arg21 : BitVec 32 := Scf.iv c0_i32_16 c1_i32_17 k0_t1
  let v18 : BitVec 32 := Scalar.muli c2_i32_19 arg21
  let c1_i32_63 : BitVec 32 := 1#32
  let v125 : BitVec 32 := Scalar.addi v18 c1_i32_63
  let v210 : Index := Scalar.indexCast v125
  let c112_103 : Index := 112#32
  ![v210.toNat, 112]
def k0_off57 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_19_r1 : BitVec 32 := 0#32
  ![v2.toNat, 0]
abbrev grid1 : Pipeline.Grid := .none

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "s" => some ((200⁻¹ : ℝ) : EReal)
  | _ => none
-- ==== ReferenceIdeal.lean ====
abbrev S1024 : Shape := ⟨1, ![1024]⟩
abbrev S1024x200 : Shape := ⟨2, ![1024, 200]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩
abbrev S1024x200x1 : Shape := ⟨3, ![1024, 200, 1]⟩
abbrev S1x1x1 : Shape := ⟨3, ![1, 1, 1]⟩
abbrev S1024x200x128 : Shape := ⟨3, ![1024, 200, 128]⟩
abbrev S1x128 : Shape := ⟨2, ![1, 128]⟩

abbrev nBuf : Space → Nat
  | .hbm => 93
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024x200, .i32⟩
  | .hbm, ⟨2, _⟩ => ⟨S1024x200, .f32⟩
  | .hbm, ⟨3, _⟩ => ⟨S100000x128, .f32⟩
  | .hbm, ⟨4, _⟩ => ⟨S100000x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1, .i32⟩
  | .hbm, ⟨18, _⟩ => ⟨S_, .i32⟩
  | .hbm, ⟨19, _⟩ => ⟨S1024x1, .i32⟩
  | .hbm, ⟨20, _⟩ => ⟨S1024x1, .i1⟩
  | .hbm, ⟨21, _⟩ => ⟨S1x1, .i32⟩
  | .hbm, ⟨22, _⟩ => ⟨S1024x1, .i32⟩
  | .hbm, ⟨23, _⟩ => ⟨S1024x1, .i1⟩
  | .hbm, ⟨24, _⟩ => ⟨S1024x1, .i1⟩
  | .hbm, ⟨25, _⟩ => ⟨S_, .i1⟩
  | .hbm, ⟨26, _⟩ => ⟨S1024, .i1⟩
  | .hbm, ⟨27, _⟩ => ⟨S1024x128, .f32⟩
  | .hbm, ⟨28, _⟩ => ⟨S1024x128, .i1⟩
  | .hbm, ⟨29, _⟩ => ⟨S_, .f32⟩
  | .hbm, ⟨30, _⟩ => ⟨S1024x128, .f32⟩
  | .hbm, ⟨31, _⟩ => ⟨S1024x128, .f32⟩
  | .hbm, ⟨32, _⟩ => ⟨S_, .i32⟩
  | .hbm, ⟨33, _⟩ => ⟨S1024x200, .i32⟩
  | .hbm, ⟨34, _⟩ => ⟨S1024x200, .i1⟩
  | .hbm, ⟨35, _⟩ => ⟨S_, .i32⟩
  | .hbm, ⟨36, _⟩ => ⟨S1024x200, .i32⟩
  | .hbm, ⟨37, _⟩ => ⟨S1024x200, .i32⟩
  | .hbm, ⟨38, _⟩ => ⟨S1024x200, .i32⟩
  | .hbm, ⟨39, _⟩ => ⟨S1024x200x1, .i32⟩
  | .hbm, ⟨40, _⟩ => ⟨S1, .i32⟩
  | .hbm, ⟨41, _⟩ => ⟨S_, .i32⟩
  | .hbm, ⟨42, _⟩ => ⟨S1024x200x1, .i32⟩
  | .hbm, ⟨43, _⟩ => ⟨S1024x200x1, .i1⟩
  | .hbm, ⟨44, _⟩ => ⟨S1x1x1, .i32⟩
  | .hbm, ⟨45, _⟩ => ⟨S1024x200x1, .i32⟩
  | .hbm, ⟨46, _⟩ => ⟨S1024x200x1, .i1⟩
  | .hbm, ⟨47, _⟩ => ⟨S1024x200x1, .i1⟩
  | .hbm, ⟨48, _⟩ => ⟨S_, .i1⟩
  | .hbm, ⟨49, _⟩ => ⟨S1024x200, .i1⟩
  | .hbm, ⟨50, _⟩ => ⟨S1024x200x128, .f32⟩
  | .hbm, ⟨51, _⟩ => ⟨S1024x200x128, .i1⟩
  | .hbm, ⟨52, _⟩ => ⟨S_, .f32⟩
  | .hbm, ⟨53, _⟩ => ⟨S1024x200x128, .f32⟩
  | .hbm, ⟨54, _⟩ => ⟨S1024x200x128, .f32⟩
  | .hbm, ⟨55, _⟩ => ⟨S1024x200x1, .f32⟩
  | .hbm, ⟨56, _⟩ => ⟨S1024x200x128, .f32⟩
  | .hbm, ⟨57, _⟩ => ⟨S1024x200x128, .f32⟩
  | .hbm, ⟨58, _⟩ => ⟨S_, .f32⟩
  | .hbm, ⟨59, _⟩ => ⟨S1024x128, .f32⟩
  | .hbm, ⟨60, _⟩ => ⟨S_, .f32⟩
  | .hbm, ⟨61, _⟩ => ⟨S1024x1, .f32⟩
  | .hbm, ⟨62, _⟩ => ⟨S_, .f32⟩
  | .hbm, ⟨63, _⟩ => ⟨S_, .f32⟩
  | .hbm, ⟨64, _⟩ => ⟨S1024x1, .f32⟩
  | .hbm, ⟨65, _⟩ => ⟨S1024x1, .f32⟩
  | .hbm, ⟨66, _⟩ => ⟨S1024x128, .f32⟩
  | .hbm, ⟨67, _⟩ => ⟨S1024x128, .f32⟩
  | .hbm, ⟨68, _⟩ => ⟨S1024x128, .f32⟩
  | .hbm, ⟨69, _⟩ => ⟨S128x128, .f32⟩
  | .hbm, ⟨70, _⟩ => ⟨S1024x128, .f32⟩
  | .hbm, ⟨71, _⟩ => ⟨S1x128, .f32⟩
  | .hbm, ⟨72, _⟩ => ⟨S1024x128, .f32⟩
  | .hbm, ⟨73, _⟩ => ⟨S1024x128, .f32⟩
  | .hbm, ⟨74, _⟩ => ⟨S_, .f32⟩
  | .hbm, ⟨75, _⟩ => ⟨S1024x128, .f32⟩
  | .hbm, ⟨76, _⟩ => ⟨S1024x128, .f32⟩
  | .hbm, ⟨77, _⟩ => ⟨S128x128, .f32⟩
  | .hbm, ⟨78, _⟩ => ⟨S1024x128, .f32⟩
  | .hbm, ⟨79, _⟩ => ⟨S1x128, .f32⟩
  | .hbm, ⟨80, _⟩ => ⟨S1024x128, .f32⟩
  | .hbm, ⟨81, _⟩ => ⟨S1024x128, .f32⟩
  | .hbm, ⟨82, _⟩ => ⟨S1024x128, .f32⟩
  | .hbm, ⟨83, _⟩ => ⟨S_, .f32⟩
  | .hbm, ⟨84, _⟩ => ⟨S1024, .f32⟩
  | .hbm, ⟨85, _⟩ => ⟨S1024x1, .f32⟩
  | .hbm, ⟨86, _⟩ => ⟨S1024x1, .f32⟩
  | .hbm, ⟨87, _⟩ => ⟨S_, .f32⟩
  | .hbm, ⟨88, _⟩ => ⟨S_, .f32⟩
  | .hbm, ⟨89, _⟩ => ⟨S1024x1, .f32⟩
  | .hbm, ⟨90, _⟩ => ⟨S1024x1, .f32⟩
  | .hbm, ⟨91, _⟩ => ⟨S1024x128, .f32⟩
  | .hbm, ⟨92, _⟩ => ⟨S1024x128, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_cst : Ref sig .tc := ⟨.hbm, 58, rfl⟩
abbrev main_v5 : Ref sig .tc := ⟨.hbm, 59, rfl⟩
abbrev main_cst_0 : Ref sig .tc := ⟨.hbm, 60, rfl⟩
abbrev main_v6 : Ref sig .tc := ⟨.hbm, 61, rfl⟩
abbrev main_cst_1 : Ref sig .tc := ⟨.hbm, 62, rfl⟩
abbrev main_call2_v0 : Ref sig .tc := ⟨.hbm, 63, rfl⟩
abbrev main_call2_v1 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_call3_cst : Ref sig .tc := ⟨.hbm, 74, rfl⟩
abbrev main_call3_v0 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_call4_v0 : Ref sig .tc := ⟨.hbm, 82, rfl⟩
abbrev main_call4_cst : Ref sig .tc := ⟨.hbm, 83, rfl⟩
abbrev main_call4_v1 : Ref sig .tc := ⟨.hbm, 84, rfl⟩
abbrev main_call4_v2 : Ref sig .tc := ⟨.hbm, 85, rfl⟩
abbrev main_v22 : Ref sig .tc := ⟨.hbm, 86, rfl⟩
abbrev main_cst_2 : Ref sig .tc := ⟨.hbm, 87, rfl⟩
abbrev main_call5_v0 : Ref sig .tc := ⟨.hbm, 88, rfl⟩
abbrev main_call5_v1 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩

abbrev nD : Nat := 1
abbrev τ : Topo := Topo.v7x

variable {F : FTy → Type} [FloatOps F]
-- ==== Proof.Setup.lean ====
/-
  The kernel as the launch theorem sees it, and the names the other modules share: the configuration and its
  definitions, the resource algebra (the handshakes' rounds beside the transfers' counters), a task's thread, and the
  sixteen-lane pieces in which the task carries a row of 128 floats.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_inputs_ok

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The launch theorem's parameters -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Rounds of the handshakes, rounds of the dense layers' staging cells, and the counters of the transfers in flight. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staging cells' rounds lie in the second component. -/
def EP : Emb UP (MT nD τ sig (HIx 1) (Elt F) ℕ UU ℕ) := (Emb.inl : Emb UP (UP × Counters)).trans embR

instance : (EP (F := F)).LandsIn (upEmb : UEmb _ (MT nD τ sig (HIx 1) (Elt F) ℕ UU ℕ)) := by unfold EP embR; infer_instance

/-! ## A task's thread -/

abbrev cV (L : grid0.Coords) : Fin τ.nSC := (L 0).castLE hcore0
abbrev jV (L : grid0.Coords) : Fin τ.nSub := (L 1).castLE hsub0
/-- The vector subcore that runs the task of grid point `L`. -/
abbrev VT (d : Dev nD) (L : grid0.Coords) : Thread nD τ := V d (cV L) (jV L)

/-! ## A row of 128 floats in eight pieces of sixteen lanes -/

abbrev V8 (F : FTy → Type) [FloatOps F] : Type :=
  FVec F S16 .f32 × FVec F S16 .f32 × FVec F S16 .f32 × FVec F S16 .f32 × FVec F S16 .f32 × FVec F S16 .f32 × FVec F S16 .f32 × FVec F S16 .f32

/-- Lane `x` of piece `c`, as a column of the row. -/
abbrev col (c : Fin 8) (x : S16.Idx) : Fin 128 := ⟨16 * c.val + (x 0).val, by have := c.isLt; have h : (x 0).val < 16 := (x 0).isLt; omega⟩

/-- Piece `c` of the row `g`. -/
def lane (g : Fin 128 → F .f32) (c : Fin 8) : FVec F S16 .f32 := fun x => g (col c x)

/-- The row `g` as the eight pieces the loops carry. -/
def lanes (g : Fin 128 → F .f32) : V8 F := (lane g 0, lane g 1, lane g 2, lane g 3, lane g 4, lane g 5, lane g 6, lane g 7)

/-- Row `n`, column `l` of a gathered block. -/
abbrev ix100 (n : Fin 100) (l : Fin 128) : S100x128.Idx := fun | 0 => n | 1 => l

/-- The row `g` plus the first `n` rows of `f`, one row after the other. -/
def addRows (f : S100x128.Idx → F .f32) (g : Fin 128 → F .f32) : ℕ → Fin 128 → F .f32
  | 0 => g
  | n + 1 => fun l => FloatOps.addf (addRows f g n l) (if h : n < 100 then f (ix100 ⟨n, h⟩ l) else g l)

/-- The zero row the accumulation starts from. -/
def zrow : Fin 128 → F .f32 := fun _ => Scalar.ofBits .f32 0x00000000#32

end Cert.Proof.Pool

end
-- ==== Proof.Acc.lean ====
/-
  The loop that adds the hundred gathered rows, sixteen lanes at a time: the four copies the kernel prints (one per
  buffer) are one loop over the buffer it reads.
-/
module

public import proofs.«01_k».proof.Proof.Setup

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- One trip over the buffer `b`: row `k`'s eight pieces loaded and added to the carried ones. -/
def accBody (L : grid0.Coords) (b : Memref sig .scVector .vmem S100x128 .f32) :
    Fin k0_t2_loop.trips → V8 F → Prog (TpuEff nD τ sig (Elt F) Λ₀ (.scVector (cV L) (jV L))) (V8 F) :=
  fun k (a0, a1, a2, a3, a4, a5, a6, a7) => do
    let w0 : Vec F S1x16 .f32 ← Prog.lift (.load b (Rect.unit (s := S100x128) (k0_off6 k) S1x16.size (k0_off6_inb k)).toLoadRect (View.loadsAt_vmem h_S1x16))
    let w1 : Vec F S1x16 .f32 ← Prog.lift (.load b (Rect.unit (s := S100x128) (k0_off7 k) S1x16.size (k0_off7_inb k)).toLoadRect (View.loadsAt_vmem h_S1x16))
    let w2 : Vec F S1x16 .f32 ← Prog.lift (.load b (Rect.unit (s := S100x128) (k0_off8 k) S1x16.size (k0_off8_inb k)).toLoadRect (View.loadsAt_vmem h_S1x16))
    let w3 : Vec F S1x16 .f32 ← Prog.lift (.load b (Rect.unit (s := S100x128) (k0_off9 k) S1x16.size (k0_off9_inb k)).toLoadRect (View.loadsAt_vmem h_S1x16))
    let w4 : Vec F S1x16 .f32 ← Prog.lift (.load b (Rect.unit (s := S100x128) (k0_off10 k) S1x16.size (k0_off10_inb k)).toLoadRect (View.loadsAt_vmem h_S1x16))
    let w5 : Vec F S1x16 .f32 ← Prog.lift (.load b (Rect.unit (s := S100x128) (k0_off11 k) S1x16.size (k0_off11_inb k)).toLoadRect (View.loadsAt_vmem h_S1x16))
    let w6 : Vec F S1x16 .f32 ← Prog.lift (.load b (Rect.unit (s := S100x128) (k0_off12 k) S1x16.size (k0_off12_inb k)).toLoadRect (View.loadsAt_vmem h_S1x16))
    let w7 : Vec F S1x16 .f32 ← Prog.lift (.load b (Rect.unit (s := S100x128) (k0_off13 k) S1x16.size (k0_off13_inb k)).toLoadRect (View.loadsAt_vmem h_S1x16))
    pure (k0_pay9 a0 w0, k0_pay10 a1 w1, k0_pay11 a2 w2, k0_pay12 a3 w3, k0_pay13 a4 w4, k0_pay14 a5 w5, k0_pay15 a6 w6, k0_pay16 a7 w7)

/-- Sixteen lanes loaded from row `k` at column `16 c`, added to piece `c` of the row so far. -/
theorem lane_step (b : Memref sig .scVector .vmem S100x128 .f32) (f : b.view.ty.Contents (Elt F)) (g : Fin 128 → F .f32)
    (k : Fin 100) (c : Fin 8) (off : Fin 2 → ℕ) (hoff : off = ![k.val, 16 * c.val]) (inb : ∀ a, off a + S1x16.size a ≤ S100x128.size a) :
    addf (lane (addRows (b.view.read (Elt F) f) g k.val) c)
        (shapeCast S16 (b.view.readAt (Elt F) (Rect.unit (s := S100x128) off S1x16.size inb).toLoadRect f) shapeCasts_S1x16_S16)
      = lane (addRows (b.view.read (Elt F) f) g (k.val + 1)) c := by
  subst hoff
  funext x
  show FloatOps.addf _ (b.view.read (Elt F) f _) = FloatOps.addf _ (dite _ _ _)
  rw [dif_pos k.isLt]
  congr 2
  have e : Shape.reshapeEquiv (s := S1x16) (s' := S16) shapeCasts_S1x16_S16 x = Fin.cons ⟨0, Nat.one_pos⟩ x :=
    Shape.reshapeEquiv_cons_one (n := 1) (d := ![16]) _ x
  rw [e]
  funext a
  match a with
  | 0 => apply Fin.ext; show k.val + 1 * 0 = k.val; omega
  | 1 => apply Fin.ext; show 16 * c.val + 1 * (x 0).val = 16 * c.val + (x 0).val; omega

def accInv (d : Dev nD) (L : grid0.Coords) (b : Memref sig .scVector .vmem S100x128 .f32) (f : Buf (Elt F) (b.view.loc (VT d L)))
    (g : Fin 128 → F .f32) (n : ℕ) (a : V8 F) : sProp 𝕄 :=
  iprop(⌜a = lanes (addRows (b.view.read (Elt F) f) g n)⌝ ∗ (b.view.loc (VT d L) ↦[b.view.set]{fullShare} f))

theorem acc_step (d : Dev nD) (L : grid0.Coords) (b : Memref sig .scVector .vmem S100x128 .f32) (hb : b.IsWhole)
    (f : Buf (Elt F) (b.view.loc (VT d L))) (g : Fin 128 → F .f32) (k : Fin k0_t2_loop.trips) (a : V8 F) :
    accInv d L b f g k.val a ⊢ wp frame (wpE (defs₀ (F := F)) 𝒱₀ (VT d L) none) Set.univ (accBody L b k a) (accInv d L b f g (k.val + 1)) := by
  obtain ⟨a0, a1, a2, a3, a4, a5, a6, a7⟩ := a
  unfold accInv accBody
  iintro ⟨%ha, Hb⟩
  sl_exec
  sl_step
  isplitr
  · ipureintro
    unfold lanes at ha ⊢
    simp only [Prod.mk.injEq] at ha
    obtain ⟨rfl, rfl, rfl, rfl, rfl, rfl, rfl, rfl⟩ := ha
    have h : k.val < 100 := k.isLt
    simp only [Prod.mk.injEq]
    exact ⟨lane_step b f g ⟨k.val, h⟩ 0 _ (k0_off6_eq k) _, lane_step b f g ⟨k.val, h⟩ 1 _ (k0_off7_eq k) _,
      lane_step b f g ⟨k.val, h⟩ 2 _ (k0_off8_eq k) _, lane_step b f g ⟨k.val, h⟩ 3 _ (k0_off9_eq k) _,
      lane_step b f g ⟨k.val, h⟩ 4 _ (k0_off10_eq k) _, lane_step b f g ⟨k.val, h⟩ 5 _ (k0_off11_eq k) _,
      lane_step b f g ⟨k.val, h⟩ 6 _ (k0_off12_eq k) _, lane_step b f g ⟨k.val, h⟩ 7 _ (k0_off13_eq k) _⟩
  · iexact Hb

/-- The loop from the pieces of `g` leaves the pieces of `g` plus the hundred rows, and the buffer as it was. -/
theorem wp_acc (d : Dev nD) (L : grid0.Coords) (b : Memref sig .scVector .vmem S100x128 .f32) (hb : b.IsWhole)
    (f : Buf (Elt F) (b.view.loc (VT d L))) (g : Fin 128 → F .f32) {β : Type} (kk : V8 F → Prog (TpuEff nD τ sig (Elt F) Λ₀ (.scVector (cV L) (jV L))) β)
    (Q : β → sProp 𝕄) :
    iprop(b.view.loc (VT d L) ↦[b.view.set]{fullShare} f)
      ⊢ iprop(((b.view.loc (VT d L) ↦[b.view.set]{fullShare} f)
            -∗ wp frame (wpE (defs₀ (F := F)) 𝒱₀ (VT d L) none) Set.univ (kk (lanes (addRows (b.view.read (Elt F) f) g 100))) Q)
          -∗ wp frame (wpE (defs₀ (F := F)) 𝒱₀ (VT d L) none) Set.univ
              (Scf.Loop.for k0_t2_loop k0_t2_ok (lanes g) (accBody (F := F) L b) >>= kk) Q) := by
  iintro Hb Hk
  iapply (Scf.wp_for_bind (Idealize.ShloMosaic.frame) (wpE (defs₀ (F := F)) 𝒱₀ (VT d L) none) Set.univ _ _ _ _ _ _ (accInv d L b f g)
    (acc_step d L b hb f g)) $$ [Hb]
  · unfold accInv
    isplitr
    · ipureintro; rfl
    · iexact Hb
  iintro %acc HI
  unfold accInv
  icases HI with ⟨%ha, Hb⟩
  rw [ha]
  iapply Hk
  iexact Hb

end Cert.Proof.Pool

end
-- ==== Proof.Gather.lean ====
/-
  The indexed copy as this kernel uses it: issued from a share of a table and a row of the list, it is a transfer whose
  arrival hands back the buffer holding the listed rows of the table together with everything it was given.
-/
module

public import proofs.«01_k».proof.Proof.Acc

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The rows a list names -/

/-- The table row a word names. -/
def rowOf (w : BitVec 32) : Fin 100000 := ⟨w.toNat % 100000, Nat.mod_lt _ (by omega)⟩
abbrev ixT (r : Fin 100000) (l : Fin 128) : S100000x128.Idx := fun | 0 => r | 1 => l
abbrev ix1 {n : ℕ} (i : Fin n) : (⟨1, ![n]⟩ : Shape).Idx := fun | 0 => i
abbrev ixL (r : Fin 64) (n : Fin 100) : S64x100.Idx := fun | 0 => r | 1 => n
abbrev ixU (r : Fin 32) (l : Fin 128) : S32x128.Idx := fun | 0 => r | 1 => l

/-- The table as a slice of all of itself reads as the table. -/
abbrev tabK (tb : Memref sig .scVector .hbm S100000x128 .f32) : Memref sig .scVector .hbm S100000x128 .f32 :=
  tb.slice (Rect.unit (s := S100000x128) ![0, 0] S100000x128.size inb_S100000x128_S100000x128_0_0) (fun _ => rfl)

theorem read_tabK (tb : Memref sig .scVector .hbm S100000x128 .f32) (ft : tb.view.ty.Contents (Elt F)) :
    (tabK tb).view.read (Elt F) ft = tb.view.read (Elt F) ft := by
  funext x
  show tb.view.read (Elt F) ft _ = _
  congr 1
  funext a
  match a with
  | 0 => apply Fin.ext; show 0 + 1 * (x 0).val = (x 0).val; omega
  | 1 => apply Fin.ext; show 0 + 1 * (x 1).val = (x 1).val; omega

/-- Entry `k` of a one-dimensional list is its word `k`. -/
theorem rowMajor_symm_val {n : ℕ} (k : Fin (⟨1, ![n]⟩ : Shape).numel) : (((⟨1, ![n]⟩ : Shape).rowMajor.symm k) 0).val = k.val := by
  obtain ⟨x, rfl⟩ := (⟨1, ![n]⟩ : Shape).rowMajor.surjective k
  rw [Equiv.symm_apply_apply]
  show _ = (Shape.rowMajorPi _ x : Fin _).val
  rw [Shape.rowMajorPi_succ_val]
  show _ = (x 0).val * 1 + 0
  omega

/-- What the copy delivers at row `i`, column `l`: the table at the row that word `i` names. -/
theorem gathered_apply {n : ℕ} (hg : S100000x128.Gathers 0 ⟨2, ![n, 128]⟩) (g : S100000x128.Idx → Elt F .f32)
    (w : (⟨1, ![n]⟩ : Shape).Idx → Elt F .i32) (hn : (⟨1, ![n]⟩ : Shape).numel = (⟨2, ![n, 128]⟩ : Shape).size hg.axis')
    (h : ∀ x, (w x).toNat < S100000x128.size hg.axis) (x : (⟨2, ![n, 128]⟩ : Shape).Idx) :
    SparseCore.gatherPayload hg g (SparseCore.rows w hn h) x = g (ixT (rowOf (w (ix1 (x 0)))) (x 1)) := by
  unfold SparseCore.gatherPayload
  congr 1
  funext a
  match a with
  | 0 =>
    refine (hg.idx_axis (SparseCore.rows w hn h) x).trans ?_
    apply Fin.ext
    show (w _).toNat = (w _).toNat % 100000
    have e : ((⟨1, ![n]⟩ : Shape).rowMajor.symm ((x hg.axis').cast hn.symm)) = ix1 (x 0) := by
      funext a
      match a with
      | 0 => apply Fin.ext; exact rowMajor_symm_val _
    rw [e]
    exact (Nat.mod_eq_of_lt (h _)).symm
  | 1 => apply Fin.ext; exact hg.idx_of_ne (SparseCore.rows w hn h) x 1 (by decide)

/-! ## A transfer in flight, by what its arrival hands back -/

/-- A copy into `dst` on semaphore `sem` is in flight, and once it has arrived `G` is at hand. -/
def Flying (d : Dev nD) (L : grid0.Coords) {s : Shape} {e : EltTy} (dst : Memref sig .scVector .vmem s e) (sem : DmaSem sig) (G : sProp 𝕄) : sProp 𝕄 :=
  iprop(∃ A R : sProp 𝕄, ⌜iprop(A ∗ R) ⊢ G⌝ ∗ Transfers.Flight countersEmb (VT d L) (.dma sem) (default : HIx 1) dst.view.dmaCredit A ∗ R)

theorem Flying_frame (d : Dev nD) (L : grid0.Coords) {s : Shape} {e : EltTy} (dst : Memref sig .scVector .vmem s e) (sem : DmaSem sig) (G R G' : sProp 𝕄)
    (h : iprop(G ∗ R) ⊢ G') : iprop(Flying d L dst sem G ∗ R) ⊢ Flying d L dst sem G' := by
  unfold Flying
  iintro ⟨⟨%A, %B, %hAB, HF, HB⟩, HR⟩
  iexists A
  iexists iprop(B ∗ R)
  isplitr
  · ipureintro
    iintro ⟨HA, HB, HR⟩
    iapply h
    isplitl [HA HB]
    · iapply hAB
      isplitl [HA] <;> iassumption
    · iexact HR
  isplitl [HF]; · iexact HF
  isplitl [HB] <;> iassumption

/-- Waiting for it. -/
theorem wp_await (d : Dev nD) (L : grid0.Coords) {s : Shape} {e : EltTy} (dst : Memref sig .scVector .vmem s e) (sem : DmaSem sig) (G : sProp 𝕄)
    {s' : Shape} {e' : EltTy} (src : Memref sig .scVector .hbm s' e') (hsrc : src.view.WordExact) (hdst : dst.view.WordExact)
    (O : CellTallies nD τ sig (HIx 1)) (W : Waits sig (HIx 1)) {β : Type}
    (k : PUnit → Prog (TpuEff nD τ sig (Elt F) Λ₀ (.scVector (cV L) (jV L))) β) (Q : β → sProp 𝕄) :
    iprop(Flying d L dst sem G ∗ owes (VT d L) O W ∗ Transfers.MayWaits (VT d L) (default : HIx 1) O)
      ⊢ iprop((iprop(G ∗ semVal (VT d L, SemLoc.dma sem) 0 ∗ owes (VT d L) O (insert (SemLoc.dma sem, (default : HIx 1)) W))
            -∗ wp frame (wpE (defs₀ (F := F)) 𝒱₀ (VT d L) none) Set.univ (k ⟨⟩) Q)
          -∗ wp frame (wpE (defs₀ (F := F)) 𝒱₀ (VT d L) none) Set.univ
              (.op (.waitDma2 sem src dst hsrc hdst) k) Q) := by
  unfold Flying
  iintro ⟨⟨%A, %B, %hAB, HF, HB⟩, HO, Hmw⟩ Hk
  iapply (Transfers.wp_waitLocalO countersEmb 𝒱₀ (VT d L) none (default : HIx 1) (rfl : dst.view.dmaCredit = _)) $$ [HF HO Hmw]
  · isplitl [HF]; · iexact HF
    isplitl [HO]; · iexact HO
    iapply (Transfers.MayWaits.elim (SemLoc.dma sem)) $$ Hmw
  iintro ⟨HA, Hsem, HO⟩
  iapply Hk
  isplitl [HA HB]
  · iapply hAB
    isplitl [HA] <;> iassumption
  isplitl [Hsem] <;> iassumption

/-! ## The copy issued -/

/-- The buffer `dst` holds, at row `i`, the table's row that word `w i` names. -/
def Holds {n : ℕ} (dst : Memref sig .scVector .vmem ⟨2, ![n, 128]⟩ .f32) (f : dst.view.ty.Contents (Elt F)) (t : S100000x128.Idx → Elt F .f32)
    (w : Fin n → BitVec 32) : Prop :=
  ∀ x, dst.view.read (Elt F) f x = t (ixT (rowOf (w (x 0))) (x 1))

/-- A copy of the rows that `offs` lists, out of a share of the table into `dst`. -/
theorem wp_gather (d : Dev nD) (L : grid0.Coords) {n : ℕ} (hn0 : 0 < n) (tb : Memref sig .scVector .hbm S100000x128 .f32)
    (dst : Memref sig .scVector .vmem ⟨2, ![n, 128]⟩ .f32) (offs : Memref sig .scVector .vmem ⟨1, ![n]⟩ .i32) (sem : DmaSem sig)
    (hg : S100000x128.Gathers 0 ⟨2, ![n, 128]⟩) (hn : (⟨1, ![n]⟩ : Shape).numel = (⟨2, ![n, 128]⟩ : Shape).size hg.axis')
    {hp : (VT d L).2.kind = .scVector} {hsrc : (tabK tb).view.WordExact} {he : EltTy.f32.bits = 32} {hsp : (Space.hbm : Space) = .hbm ∨ (Space.hbm : Space) = .shared}
    {hr : S100000x128.StreamRows 0}
    (q qo : PosShare TreeShare) (ft : Buf (Elt F) (tb.view.loc (VT d L))) (fd : Buf (Elt F) (dst.view.loc (VT d L))) (fo : Buf (Elt F) (offs.view.loc (VT d L)))
    (hin : ∀ x, (offs.view.read (Elt F) fo x).toNat < 100000) {β : Type}
    (k : PUnit → Prog (TpuEff nD τ sig (Elt F) Λ₀ (.scVector (cV L) (jV L))) β) (Q : β → sProp 𝕄) :
    iprop((tb.view.loc (VT d L) ↦[tb.view.set]{q} ft) ∗ (dst.view.loc (VT d L) ↦[dst.view.set]{fullShare} fd)
        ∗ (offs.view.loc (VT d L) ↦[offs.view.set]{qo} fo) ∗ semVal (VT d L, SemLoc.dma sem) 0)
      ⊢ iprop((Flying d L dst sem iprop(∃ f, ⌜Holds dst f (tb.view.read (Elt F) ft) fun i => offs.view.read (Elt F) fo (ix1 i)⌝
              ∗ (dst.view.loc (VT d L) ↦[dst.view.set]{fullShare} f)
              ∗ (tb.view.loc (VT d L) ↦[tb.view.set]{q} ft) ∗ (offs.view.loc (VT d L) ↦[offs.view.set]{qo} fo))
            -∗ wp frame (wpE (defs₀ (F := F)) 𝒱₀ (VT d L) none) Set.univ (k ⟨⟩) Q)
          -∗ wp frame (wpE (defs₀ (F := F)) 𝒱₀ (VT d L) none) Set.univ
              (SparseCore.enqueueIndirectGather (p := (VT d L).2) hp (tabK tb) dst hg offs hn sem hsrc he hsp hr >>= k) Q) := by
  have hsub : (tabK tb).view.set ⊆ tb.view.set := View.set_slice_subset _ _
  have hpos : 0 < (⟨2, ![n, 128]⟩ : Shape).numel := by
    show 0 < ∏ a : Fin 2, (![n, 128] : Fin 2 → ℕ) a
    rw [Fin.prod_univ_two]
    show 0 < n * 128
    omega
  iintro ⟨Ht, Hd, Ho, Hs⟩ Hk
  ihave Ht2 := (pointsTo_split_subset hsub).1 $$ Ht
  icases Ht2 with ⟨Hts, Htr⟩
  iapply (SparseCore.wp_indirectGatherLocal countersEmb 𝒱₀ (VT d L) none (src := tabK tb) (dst := dst) (hg := hg) (default : HIx 1) dst.view.dmaCredit
    (SparseCore.sum_rowCredit_eq_dmaCredit dst hg.axis' (fun _ => rfl)) hpos hin) $$ [Hts Hd Ho Hs]
  · isplitl [Hts]; · iexact Hts
    isplitl [Hd]; · iexact Hd
    isplitl [Ho]; · iexact Ho
    iexact Hs
  iintro Hfl
  iapply Hk
  unfold Flying
  iexists _
  iexists _
  isplitr
  rotate_left
  · isplitl [Hfl]; · iexact Hfl
    iexact Htr
  · ipureintro
    iintro ⟨⟨Hd, Hts, Ho⟩, Htr⟩
    iexists _
    isplitr
    rotate_left
    · isplitl [Hd]; · iexact Hd
      isplitl [Hts Htr]
      · iapply (pointsTo_split_subset hsub).2
        isplitl [Hts] <;> iassumption
      · iexact Ho
    · ipureintro
      intro x
      rw [View.read_write_univ]
      refine (gathered_apply hg _ _ hn hin x).trans ?_
      rw [read_tabK]

/-! ## The copy by a row of the list -/

/-- Row `r` of the list, as the copy addresses it. -/
abbrev rowK (li : Memref sig .scVector .vmem S64x100 .i32) (off : Fin 2 → ℕ) (inb : ∀ a, off a + S1x100.size a ≤ S64x100.size a) :
    Memref sig .scVector .vmem S100 .i32 :=
  (li.slice (Rect.unit (s := S64x100) off S1x100.size inb) (fun _ => rfl)).squeeze S100 squeezes_S1x100_S100

theorem read_rowK (li : Memref sig .scVector .vmem S64x100 .i32) (fl : li.view.ty.Contents (Elt F)) (r : Fin 64) (off : Fin 2 → ℕ) (hoff : off = ![r.val, 0])
    (inb : ∀ a, off a + S1x100.size a ≤ S64x100.size a) (x : S100.Idx) :
    (rowK li off inb).view.read (Elt F) fl x = li.view.read (Elt F) fl (ixL r (x 0)) := by
  subst hoff
  show li.view.read (Elt F) fl _ = _
  congr 1
  have e : Shape.reshapeEquiv (s := S1x100) (s' := S100) squeezes_S1x100_S100.numel_eq x = Fin.cons ⟨0, Nat.one_pos⟩ x :=
    Shape.reshapeEquiv_cons_one (n := 1) (d := ![100]) _ x
  funext a
  match a with
  | 0 =>
    apply Fin.ext
    show r.val + 1 * ((Shape.reshapeEquiv (s := S1x100) (s' := S100) squeezes_S1x100_S100.numel_eq x) 0).val = r.val
    rw [e]
    show r.val + 1 * 0 = r.val
    omega
  | 1 =>
    apply Fin.ext
    show 0 + 1 * ((Shape.reshapeEquiv (s := S1x100) (s' := S100) squeezes_S1x100_S100.numel_eq x) 1).val = (x 0).val
    rw [e]
    show 0 + 1 * (x 0).val = (x 0).val
    omega

/-- What a copy by row `r` of the list into `dst` hands back: the buffer with the rows listed there, the share of the
    table and the share of the list. -/
def Landed (d : Dev nD) (L : grid0.Coords) (tb : Memref sig .scVector .hbm S100000x128 .f32) (li : Memref sig .scVector .vmem S64x100 .i32)
    (ft : Buf (Elt F) (tb.view.loc (VT d L))) (fl : Buf (Elt F) (li.view.loc (VT d L))) (q qo : PosShare TreeShare)
    (dst : Memref sig .scVector .vmem S100x128 .f32) (r : ℕ) : sProp 𝕄 :=
  iprop(∃ f, ⌜∀ h : r < 64, Holds dst f (tb.view.read (Elt F) ft) fun i => li.view.read (Elt F) fl (ixL ⟨r, h⟩ i)⌝
    ∗ (dst.view.loc (VT d L) ↦[dst.view.set]{fullShare} f)
    ∗ (tb.view.loc (VT d L) ↦[tb.view.set]{q} ft) ∗ (li.view.loc (VT d L) ↦[li.view.set]{qo} fl))

theorem wp_gatherRow (d : Dev nD) (L : grid0.Coords) (tb : Memref sig .scVector .hbm S100000x128 .f32) (li : Memref sig .scVector .vmem S64x100 .i32)
    (dst : Memref sig .scVector .vmem S100x128 .f32) (sem : DmaSem sig) (r : Fin 64) (off : Fin 2 → ℕ) (hoff : off = ![r.val, 0])
    (inb : ∀ a, off a + S1x100.size a ≤ S64x100.size a)
    {hp : (VT d L).2.kind = .scVector} {hsrc : (tabK tb).view.WordExact} {he : EltTy.f32.bits = 32} {hsp : (Space.hbm : Space) = .hbm ∨ (Space.hbm : Space) = .shared}
    {hr : S100000x128.StreamRows 0} {hn : S100.numel = S100x128.size gathers_S100000x128_S100x128.axis'}
    (q qo : PosShare TreeShare) (ft : Buf (Elt F) (tb.view.loc (VT d L))) (fd : Buf (Elt F) (dst.view.loc (VT d L))) (fl : Buf (Elt F) (li.view.loc (VT d L)))
    (hin : ∀ x, (li.view.read (Elt F) fl x).toNat < 100000) {β : Type}
    (k : PUnit → Prog (TpuEff nD τ sig (Elt F) Λ₀ (.scVector (cV L) (jV L))) β) (Q : β → sProp 𝕄) :
    iprop((tb.view.loc (VT d L) ↦[tb.view.set]{q} ft) ∗ (dst.view.loc (VT d L) ↦[dst.view.set]{fullShare} fd)
        ∗ (li.view.loc (VT d L) ↦[li.view.set]{qo} fl) ∗ semVal (VT d L, SemLoc.dma sem) 0)
      ⊢ iprop((Flying d L dst sem (Landed d L tb li ft fl q qo dst r.val)
            -∗ wp frame (wpE (defs₀ (F := F)) 𝒱₀ (VT d L) none) Set.univ (k ⟨⟩) Q)
          -∗ wp frame (wpE (defs₀ (F := F)) 𝒱₀ (VT d L) none) Set.univ
              (SparseCore.enqueueIndirectGather (p := (VT d L).2) hp (tabK tb) dst gathers_S100000x128_S100x128 (rowK li off inb) hn sem hsrc he hsp hr >>= k) Q) := by
  have hsub : (rowK li off inb).view.set ⊆ li.view.set := by
    show ((li.view.slice (Rect.unit (s := S64x100) off S1x100.size inb)).reshape S100 squeezes_S1x100_S100.numel_eq).set ⊆ _
    rw [View.set_reshape]
    exact View.set_slice_subset _ _
  iintro ⟨Ht, Hd, Hl, Hs⟩ Hk
  ihave Hl2 := (pointsTo_split_subset hsub).1 $$ Hl
  icases Hl2 with ⟨Hlr, Hlrest⟩
  iapply (wp_gather d L (by decide) tb dst (rowK li off inb) sem gathers_S100000x128_S100x128 hn q qo ft fd fl
    (fun x => by rw [read_rowK li fl r off hoff]; exact hin _)) $$ [Ht Hd Hlr Hs]
  · isplitl [Ht]; · iexact Ht
    isplitl [Hd]; · iexact Hd
    isplitl [Hlr]; · iexact Hlr
    iexact Hs
  iintro Hfl
  iapply Hk
  iapply (Flying_frame d L dst sem _ _ _ ?_) $$ [Hfl Hlrest]
  rotate_left
  · isplitl [Hfl]; · iexact Hfl
    iexact Hlrest
  unfold Landed
  iintro ⟨⟨%f, %hf, Hd, Ht, Hlr⟩, Hlrest⟩
  iexists f
  isplitr
  · ipureintro
    intro h x
    exact (hf x).trans (congrArg (fun w => tb.view.read (Elt F) ft (ixT (rowOf w) (x 1))) (read_rowK li fl r off hoff inb (ix1 (x 0))))
  isplitl [Hd]; · iexact Hd
  isplitl [Ht]; · iexact Ht
  iapply (pointsTo_split_subset hsub).2
  isplitl [Hlr] <;> iassumption

end Cert.Proof.Pool

end
-- ==== Proof.Trip.lean ====
/-
  One trip of the task's loop: two rows of the result, from the four buffers the rows of the news table are fetched into.
-/
module

public import proofs.«01_k».proof.Proof.Gather

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What a row of the result is -/

/-- The rows of the table a row of words names. -/
def gatF (t : S100000x128.Idx → F .f32) (w : Fin 100 → BitVec 32) : S100x128.Idx → F .f32 := fun x => t (ixT (rowOf (w (x 0))) (x 1))

/-- The words of the list read in order, two rows of a hundred to a row of the result: row `r`'s `h`-th half. -/
def half (r : Fin 32) (h : Fin 2) : Fin 64 := ⟨2 * r.val + h.val, by omega⟩

/-- Row `r`: the user's row plus the two hundred listed rows, added one after the other, times the constant. -/
def outRow (u : S32x128.Idx → F .f32) (t : S100000x128.Idx → F .f32) (w : S64x100.Idx → BitVec 32) (r : Fin 32) : Fin 128 → F .f32 := fun l =>
  FloatOps.addf (u (ixU r l))
    (FloatOps.mulf
      (addRows (gatF t fun i => w (ixL (half r 1) i)) (addRows (gatF t fun i => w (ixL (half r 0) i)) zrow 100) 100 l)
      (Named.named κ "s" (φ := .f32) 0x3BA3D70A#32))

theorem outRow_eq (u : S32x128.Idx → F .f32) (t : S100000x128.Idx → F .f32) (w : S64x100.Idx → BitVec 32) (r : Fin 32) (a b : Fin 64) (A B : Fin 128 → F .f32)
    (ha : a.val = 2 * r.val) (hb : b.val = 2 * r.val + 1) (hA : addRows (gatF t fun i => w (ixL a i)) zrow 100 = A)
    (hB : addRows (gatF t fun i => w (ixL b i)) A 100 = B) (l : Fin 128) :
    outRow u t w r l = FloatOps.addf (u (ixU r l)) (FloatOps.mulf (B l) (Named.named κ "s" (φ := .f32) 0x3BA3D70A#32)) := by
  obtain rfl : half r 0 = a := Fin.ext ha.symm
  obtain rfl : half r 1 = b := Fin.ext hb.symm
  subst hA hB
  rfl

/-- Every word of the list names a row of the table. -/
def InRange (li : Memref sig .scVector .vmem S64x100 .i32) (fl : li.view.ty.Contents (Elt F)) : Prop := ∀ x, (li.view.read (Elt F) fl x).toNat < 100000

/-- Waiting for the copy by row `r` of the list: the buffer then holds the rows listed there. -/
theorem wp_awaitRow (d : Dev nD) (L : grid0.Coords) (tb : Memref sig .scVector .hbm S100000x128 .f32) (li : Memref sig .scVector .vmem S64x100 .i32)
    (dst : Memref sig .scVector .vmem S100x128 .f32) (sem : DmaSem sig) (r : Fin 64) {n : ℕ} (hn : n = r.val)
    (ft : Buf (Elt F) (tb.view.loc (VT d L))) (fl : Buf (Elt F) (li.view.loc (VT d L))) (q qo : PosShare TreeShare)
    {s' : Shape} {e' : EltTy} (src : Memref sig .scVector .hbm s' e') (hsrc : src.view.WordExact) (hdst : dst.view.WordExact)
    (O : CellTallies nD τ sig (HIx 1)) (W : Waits sig (HIx 1)) {β : Type}
    (k : PUnit → Prog (TpuEff nD τ sig (Elt F) Λ₀ (.scVector (cV L) (jV L))) β) (Q : β → sProp 𝕄) :
    iprop(Flying d L dst sem (Landed d L tb li ft fl q qo dst n) ∗ owes (VT d L) O W ∗ Transfers.MayWaits (VT d L) (default : HIx 1) O)
      ⊢ iprop((iprop(∃ f, ⌜dst.view.read (Elt F) f = gatF (tb.view.read (Elt F) ft) fun i => li.view.read (Elt F) fl (ixL r i)⌝
            ∗ (dst.view.loc (VT d L) ↦[dst.view.set]{fullShare} f)
            ∗ (tb.view.loc (VT d L) ↦[tb.view.set]{q} ft) ∗ (li.view.loc (VT d L) ↦[li.view.set]{qo} fl)
            ∗ semVal (VT d L, SemLoc.dma sem) 0 ∗ owes (VT d L) O (insert (SemLoc.dma sem, (default : HIx 1)) W))
            -∗ wp frame (wpE (defs₀ (F := F)) 𝒱₀ (VT d L) none) Set.univ (k ⟨⟩) Q)
          -∗ wp frame (wpE (defs₀ (F := F)) 𝒱₀ (VT d L) none) Set.univ
              (.op (.waitDma2 sem src dst hsrc hdst) k) Q) := by
  subst hn
  iintro H Hk
  iapply (wp_await d L dst sem _ src hsrc hdst O W) $$ H
  unfold Landed
  iintro ⟨⟨%f, %hf, Hd, Ht, Hl⟩, Hs, HO⟩
  iapply Hk
  iexists f
  isplitr
  · ipureintro
    funext x
    exact hf r.isLt x
  isplitl [Hd]; · iexact Hd
  isplitl [Ht]; · iexact Ht
  isplitl [Hl]; · iexact Hl
  isplitl [Hs] <;> iassumption

section Trip

variable (d : Dev nD) (L : grid0.Coords)
variable (a2 : Memref sig .scVector .hbm S1024 .i32) (h2 : a2.IsWhole) (a3 : Memref sig .scVector .hbm S2048x100 .i32) (h3 : a3.IsWhole)
  (a4 : Memref sig .scVector .hbm S100000x128 .f32) (h4 : a4.IsWhole) (a5 : Memref sig .scVector .hbm S100000x128 .f32) (h5 : a5.IsWhole)
  (a6 : Memref sig .scVector .hbm S1024x128 .f32) (h6 : a6.IsWhole) (a7 : Memref sig .scVector .vmem S32 .i32) (h7 : a7.IsWhole)
  (a8 : Memref sig .scVector .vmem S64x100 .i32) (h8 : a8.IsWhole) (a9 : Memref sig .scVector .vmem S32x128 .f32) (h9 : a9.IsWhole)
  (a10 : Memref sig .scVector .vmem S100x128 .f32) (h10 : a10.IsWhole) (a11 : Memref sig .scVector .vmem S100x128 .f32) (h11 : a11.IsWhole)
  (a12 : Memref sig .scVector .vmem S100x128 .f32) (h12 : a12.IsWhole) (a13 : Memref sig .scVector .vmem S100x128 .f32) (h13 : a13.IsWhole)
  (a14 : Memref sig .scVector .vmem S32x128 .f32) (h14 : a14.IsWhole)
  (a15 a16 a17 a18 a19 a20 r0 r1 : DmaSems sig S_)
variable (fu : Buf (Elt F) (a9.view.loc (VT d L))) (ft : Buf (Elt F) (a5.view.loc (VT d L))) (fl : Buf (Elt F) (a8.view.loc (VT d L)))
  (O : CellTallies nD τ sig (HIx 1)) (W : Waits sig (HIx 1)) (q qo : Fin 4 → PosShare TreeShare)

/-- A gather buffer at rest, with its shares of the table and of the list, its semaphore at zero. -/
def Rest (b : Memref sig .scVector .vmem S100x128 .f32) (sem : DmaSem sig) (i : Fin 4) : sProp 𝕄 :=
  iprop(∃ f, (b.view.loc (VT d L) ↦[b.view.set]{fullShare} f)
    ∗ (a5.view.loc (VT d L) ↦[a5.view.set]{q i} ft) ∗ (a8.view.loc (VT d L) ↦[a8.view.set]{qo i} fl) ∗ semVal (VT d L, SemLoc.dma sem) 0)

/-- A gather buffer that row `r` of the list is being fetched into — or at rest, when there is no such row. -/
def Next (b : Memref sig .scVector .vmem S100x128 .f32) (sem : DmaSem sig) (i : Fin 4) (r : ℕ) : sProp 𝕄 :=
  if r < 64 then Flying d L b sem (Landed d L a5 a8 ft fl (q i) (qo i) b r) else Rest d L a5 a8 ft fl q qo b sem i

/-- The sums' buffer with its first `n` rows done. -/
def Done (n : ℕ) : sProp 𝕄 :=
  iprop(∃ f, ⌜∀ (r : Fin 32) (l : Fin 128), r.val < n → a14.view.read (Elt F) f (ixU r l)
      = outRow (a9.view.read (Elt F) fu) (a5.view.read (Elt F) ft) (a8.view.read (Elt F) fl) r l⌝
    ∗ (a14.view.loc (VT d L) ↦[a14.view.set]{fullShare} f))

/-- Ahead of trip `k`: `2 k` rows done, the first two buffers being filled for row `2 k`, the other two at rest. -/
def tripInv (k : ℕ) : sProp 𝕄 :=
  iprop(Next d L a5 a8 ft fl q qo a10 a17.sem 0 (4 * k) ∗ Next d L a5 a8 ft fl q qo a11 a18.sem 1 (4 * k + 1)
    ∗ Rest d L a5 a8 ft fl q qo a12 a19.sem 2 ∗ Rest d L a5 a8 ft fl q qo a13 a20.sem 3
    ∗ (a9.view.loc (VT d L) ↦[a9.view.set]{fullShare} fu)
    ∗ Done d L a5 a8 a9 a14 fu ft fl (2 * k)
    ∗ Transfers.MayWaits (VT d L) (default : HIx 1) O
    ∗ ∃ W', ⌜∀ p ∈ W', p ∈ W ∨ p.2 = none⌝ ∗ owes (VT d L) O W')

/-! The four printed loops are the one loop, each over its own buffer. -/

theorem t2_eq (c c' : BitVec 32) (k : Fin k0_t1_loop.trips) :
    k0_t2_body (F := F) L a2 h2 a3 h3 a4 h4 a5 h5 a6 h6 a7 h7 a8 h8 a9 h9 a10 h10 a11 h11 a12 h12 a13 h13 a14 h14 a15 a16 a17 a18 a19 a20 r0 r1 c c' k = accBody L a10 := rfl
theorem t3_eq (v9 : FVec F S16 .f32) (k : Fin k0_t1_loop.trips) (c : BitVec 32) (x0 x1 x2 x3 x4 x5 x6 x7 : FVec F S16 .f32) :
    k0_t3_body (F := F) L a2 h2 a3 h3 a4 h4 a5 h5 a6 h6 a7 h7 a8 h8 a9 h9 a10 h10 a11 h11 a12 h12 a13 h13 a14 h14 a15 a16 a17 a18 a19 a20 r0 r1 v9 k c x0 x1 x2 x3 x4 x5 x6 x7 = accBody L a11 := rfl
theorem t4_eq (v9 : FVec F S16 .f32) (k : Fin k0_t1_loop.trips) (c : BitVec 32) :
    k0_t4_body (F := F) L a2 h2 a3 h3 a4 h4 a5 h5 a6 h6 a7 h7 a8 h8 a9 h9 a10 h10 a11 h11 a12 h12 a13 h13 a14 h14 a15 a16 a17 a18 a19 a20 r0 r1 v9 k c = accBody L a12 := rfl
theorem t5_eq (v9 : FVec F S16 .f32) (k : Fin k0_t1_loop.trips) (c : BitVec 32) :
    k0_t5_body (F := F) L a2 h2 a3 h3 a4 h4 a5 h5 a6 h6 a7 h7 a8 h8 a9 h9 a10 h10 a11 h11 a12 h12 a13 h13 a14 h14 a15 a16 a17 a18 a19 a20 r0 r1 v9 k c = accBody L a13 := rfl
theorem init2_eq : ((k0_pay1 (F := F), k0_pay2 (F := F), k0_pay3 (F := F), k0_pay4 (F := F), k0_pay5 (F := F), k0_pay6 (F := F), k0_pay7 (F := F), k0_pay8 (F := F)) : V8 F) = lanes zrow := rfl
theorem init4_eq : ((k0_pay33 (F := F), k0_pay34 (F := F), k0_pay35 (F := F), k0_pay36 (F := F), k0_pay37 (F := F), k0_pay38 (F := F), k0_pay39 (F := F), k0_pay40 (F := F)) : V8 F) = lanes zrow := rfl

/-! The sixteen pieces a trip stores: eight to a row, two rows. -/

/-- Where sixteen lanes stored at row `r`, column `16 c`, go. -/
theorem emb_piece (r : Fin 32) (c : Fin 8) (off : Fin 2 → ℕ) (hoff : off = ![r.val, 16 * c.val]) (inb : ∀ a, off a + S1x16.size a ≤ S32x128.size a)
    (y : S16.Idx) :
    (Rect.unit (s := S32x128) off S1x16.size inb).emb (Shape.reshapeEquiv (s := S1x16) (s' := S16) shapeCasts_S1x16_S16 y) = ixU r (col c y) := by
  subst hoff
  have e : Shape.reshapeEquiv (s := S1x16) (s' := S16) shapeCasts_S1x16_S16 y = Fin.cons ⟨0, Nat.one_pos⟩ y :=
    Shape.reshapeEquiv_cons_one (n := 1) (d := ![16]) _ y
  rw [e]
  funext a
  match a with
  | 0 => apply Fin.ext; show r.val + 1 * 0 = r.val; omega
  | 1 => apply Fin.ext; show 16 * c.val + 1 * (y 0).val = 16 * c.val + (y 0).val; omega

/-- What is stored at row `r`, column `16 c`, when the row's sums are `R`. -/
theorem piece_eq (G : S32x128.Idx → F .f32) (R : Fin 128 → F .f32) (r : Fin 32)
    (hG : ∀ l, G (ixU r l) = FloatOps.addf (a9.view.read (Elt F) fu (ixU r l)) (FloatOps.mulf (R l) (Named.named κ "s" (φ := .f32) 0x3BA3D70A#32)))
    (c : Fin 8) (off : Fin 2 → ℕ) (hoff : off = ![r.val, 16 * c.val]) (inb : ∀ a, off a + S1x16.size a ≤ S32x128.size a) (x : S1x16.Idx) :
    k0_pay25 (k0_pay63 (F := F)) (lane R c) (a9.view.readAt (Elt F) (Rect.unit (s := S32x128) off S1x16.size inb).toLoadRect fu) x
      = G ((Rect.unit (s := S32x128) off S1x16.size inb).emb x) := by
  obtain ⟨y, rfl⟩ := (Shape.reshapeEquiv (s := S1x16) (s' := S16) shapeCasts_S1x16_S16).surjective x
  have hy : Shape.reshapeEquiv (s := S16) (s' := S1x16) shapeCasts_S16_S1x16
      (Shape.reshapeEquiv (s := S1x16) (s' := S16) shapeCasts_S1x16_S16 y) = y := by
    rw [Shape.reshapeEquiv_reshapeEquiv, Shape.reshapeEquiv_self]
  have hE := emb_piece r c off hoff inb y
  rw [hE, hG]
  show FloatOps.addf (a9.view.read (Elt F) fu ((Rect.unit (s := S32x128) off S1x16.size inb).emb (Shape.reshapeEquiv (s := S1x16) (s' := S16) shapeCasts_S1x16_S16
      (Shape.reshapeEquiv (s := S16) (s' := S1x16) shapeCasts_S16_S1x16 (Shape.reshapeEquiv (s := S1x16) (s' := S16) shapeCasts_S1x16_S16 y)))))
    (FloatOps.mulf (R (col c (Shape.reshapeEquiv (s := S16) (s' := S1x16) shapeCasts_S16_S1x16 (Shape.reshapeEquiv (s := S1x16) (s' := S16) shapeCasts_S1x16_S16 y)))) _) = _
  rw [hy, hE]
  rfl

/-- Row `r`, columns from `16 c` on. -/
theorem mem_piece (y : S32x128.Idx) (r c : ℕ) (off : Fin 2 → ℕ) (hoff : off = ![r, c]) (inb : ∀ a, off a + S1x16.size a ≤ S32x128.size a)
    (h : (y 0).val = r ∧ c ≤ (y 1).val ∧ (y 1).val < c + 16) : y ∈ (Rect.unit (s := S32x128) off S1x16.size inb).set := by
  subst hoff
  refine (Rect.unit (s := S32x128) ![r, c] S1x16.size inb).mem_set.2 ?_
  intro a
  match a with
  | 0 => exact ⟨0, Nat.one_pos, by show (y 0).val = r + 1 * 0; omega⟩
  | 1 => exact ⟨(y 1).val - c, by show _ < 16; omega, by show (y 1).val = c + 1 * ((y 1).val - c); omega⟩

theorem not_mem_piece (y : S32x128.Idx) (r c : ℕ) (off : Fin 2 → ℕ) (hoff : off = ![r, c]) (inb : ∀ a, off a + S1x16.size a ≤ S32x128.size a)
    (h : (y 0).val < r) : y ∉ (Rect.unit (s := S32x128) off S1x16.size inb).set := by
  subst hoff
  exact Rect.not_mem_set_of_axis _ y 0 r 1 rfl rfl rfl (Or.inl h)

theorem cond1_iff : ∀ k : Fin k0_t1_loop.trips, k0_cond1 k = 1#1 ↔ k.val < 15 := by decide +kernel

set_option maxHeartbeats 1000000 in
/-- A trip: from two more rows' copies under way to the next two rows' sums stored. -/
theorem trip_step (hin : InRange (F := F) a8 fl) (k : Fin k0_t1_loop.trips) (u : Unit) :
    tripInv d L a5 a8 a9 a10 a11 a12 a13 a14 a17 a18 a19 a20 fu ft fl O W q qo k.val
      ⊢ wp frame (wpE (defs₀ (F := F)) 𝒱₀ (VT d L) none) Set.univ
          (k0_t1_body (F := F) L a2 h2 a3 h3 a4 h4 a5 h5 a6 h6 a7 h7 a8 h8 a9 h9 a10 h10 a11 h11 a12 h12 a13 h13 a14 h14 a15 a16 a17 a18 a19 a20 r0 r1 k u)
          fun _ => tripInv d L a5 a8 a9 a10 a11 a12 a13 a14 a17 a18 a19 a20 fu ft fl O W q qo (k.val + 1) := by
  have hk : k.val < 16 := k.isLt
  unfold tripInv
  conv => lhs; unfold Next Rest
  rw [if_pos (by omega : 4 * k.val < 64), if_pos (by omega : 4 * k.val + 1 < 64)]
  unfold k0_t1_body
  simp only [k0_part1_eq_skeleton, k0_part2_eq_skeleton, k0_part3_eq_skeleton, k0_part4_eq_skeleton, k0_part5_eq_skeleton]
  unfold k0_part1_skel
  iintro ⟨HF10, HF11, ⟨%f12, H12, Ht12, Hl12, Hs12⟩, ⟨%f13, H13, Ht13, Hl13, Hs13⟩, Hu, HD, #Hmw, ⟨%W0, %hW0, HO⟩⟩
  sl_exec
  iapply (wp_gatherRow d L a5 a8 a12 a19.sem ⟨4 * k.val + 2, by omega⟩ (k0_off3 k) (k0_off3_eq k) _ (q 2) (qo 2) ft f12 fl hin) $$ [H12 Ht12 Hl12 Hs12]
  · isplitl [Ht12]; · iexact Ht12
    isplitl [H12]; · iexact H12
    isplitl [Hl12]; · iexact Hl12
    iexact Hs12
  iintro HF12
  sl_exec
  iapply (wp_gatherRow d L a5 a8 a13 a20.sem ⟨4 * k.val + 3, by omega⟩ (k0_off4 k) (k0_off4_eq k) _ (q 3) (qo 3) ft f13 fl hin) $$ [H13 Ht13 Hl13 Hs13]
  · isplitl [Ht13]; · iexact Ht13
    isplitl [H13]; · iexact H13
    isplitl [Hl13]; · iexact Hl13
    iexact Hs13
  iintro HF13
  sl_exec
  iapply (wp_awaitRow d L a5 a8 a10 a17.sem ⟨4 * k.val, by omega⟩ rfl ft fl (q 0) (qo 0) _ _ _ O W0) $$ [HF10 HO]
  · isplitl [HF10]; · iexact HF10
    isplitl [HO]; · iexact HO
    iexact Hmw
  iintro ⟨%f10, %hf10, H10, Ht10, Hl10, Hs10, HO⟩
  sl_exec
  rw [t2_eq, init2_eq, bind_assoc]
  iapply (wp_acc d L a10 h10 f10 zrow) $$ [H10]
  · iexact H10
  iintro H10
  rw [hf10]
  generalize hA : addRows (F := F) (gatF _ _) zrow 100 = A
  simp only [lanes, pure_bind]
  simp only [k0_part2_skel]
  sl_exec
  iapply (wp_awaitRow d L a5 a8 a11 a18.sem ⟨4 * k.val + 1, by omega⟩ rfl ft fl (q 1) (qo 1) _ _ _ O _) $$ [HF11 HO]
  · isplitl [HF11]; · iexact HF11
    isplitl [HO]; · iexact HO
    iexact Hmw
  iintro ⟨%f11, %hf11, H11, Ht11, Hl11, Hs11, HO⟩
  sl_exec
  rw [t3_eq, bind_assoc]
  iapply (wp_acc d L a11 h11 f11 A) $$ [H11]
  · iexact H11
  iintro H11
  rw [hf11]
  generalize hB : addRows (F := F) (gatF _ _) A 100 = B
  simp only [lanes, pure_bind]
  unfold Done
  icases HD with ⟨%f14, %hf14, H14⟩
  sl_exec
  simp only [k0_part3_skel]
  iapply (wp_wand Idealize.ShloMosaic.frame (wpE (defs₀ (F := F)) 𝒱₀ (VT d L) none) Set.univ
    (Q := fun _ => iprop(Next d L a5 a8 ft fl q qo a10 a17.sem 0 (4 * (k.val + 1)) ∗ Next d L a5 a8 ft fl q qo a11 a18.sem 1 (4 * (k.val + 1) + 1))))
    $$ [H10 Ht10 Hl10 Hs10 H11 Ht11 Hl11 Hs11]
  · by_cases hc : k0_cond1 k = 1#1
    · have hk' := (cond1_iff k).1 hc
      rw [dif_pos hc]
      iapply (wp_gatherRow d L a5 a8 a10 a17.sem ⟨4 * k.val + 4, by omega⟩ (k0_off31 k) (k0_off31_eq k) _ (q 0) (qo 0) ft f10 fl hin) $$ [H10 Ht10 Hl10 Hs10]
      · isplitl [Ht10]; · iexact Ht10
        isplitl [H10]; · iexact H10
        isplitl [Hl10]; · iexact Hl10
        iexact Hs10
      iintro HF10
      iapply (wp_gatherRow d L a5 a8 a11 a18.sem ⟨4 * k.val + 5, by omega⟩ (k0_off32 k) (k0_off32_eq k) _ (q 1) (qo 1) ft f11 fl hin) $$ [H11 Ht11 Hl11 Hs11]
      · isplitl [Ht11]; · iexact Ht11
        isplitl [H11]; · iexact H11
        isplitl [Hl11]; · iexact Hl11
        iexact Hs11
      iintro HF11
      sl_step
      unfold Next
      rw [if_pos (by omega : 4 * (k.val + 1) < 64), if_pos (by omega : 4 * (k.val + 1) + 1 < 64)]
      isplitl [HF10]
      · iexact HF10
      · iexact HF11
    · have hk' : ¬ k.val < 15 := fun h => hc ((cond1_iff k).2 h)
      rw [dif_neg hc]
      sl_step
      unfold Next Rest
      rw [if_neg (by omega : ¬ 4 * (k.val + 1) < 64), if_neg (by omega : ¬ 4 * (k.val + 1) + 1 < 64)]
      isplitl [H10 Ht10 Hl10 Hs10]
      · iexists f10
        isplitl [H10]; · iexact H10
        isplitl [Ht10]; · iexact Ht10
        isplitl [Hl10]; · iexact Hl10
        iexact Hs10
      · iexists f11
        isplitl [H11]; · iexact H11
        isplitl [Ht11]; · iexact Ht11
        isplitl [Hl11]; · iexact Hl11
        iexact Hs11
  iintro %b ⟨HN10, HN11⟩
  simp only [k0_part4_skel]
  sl_exec
  iapply (wp_awaitRow d L a5 a8 a12 a19.sem ⟨4 * k.val + 2, by omega⟩ rfl ft fl (q 2) (qo 2) _ _ _ O _) $$ [HF12 HO]
  · isplitl [HF12]; · iexact HF12
    isplitl [HO]; · iexact HO
    iexact Hmw
  iintro ⟨%g12, %hg12, H12, Ht12, Hl12, Hs12, HO⟩
  sl_exec
  rw [t4_eq, init4_eq, bind_assoc]
  iapply (wp_acc d L a12 h12 g12 zrow) $$ [H12]
  · iexact H12
  iintro H12
  rw [hg12]
  generalize hA' : addRows (F := F) (gatF _ _) zrow 100 = A'
  simp only [lanes, pure_bind]
  sl_exec
  iapply (wp_awaitRow d L a5 a8 a13 a20.sem ⟨4 * k.val + 3, by omega⟩ rfl ft fl (q 3) (qo 3) _ _ _ O _) $$ [HF13 HO]
  · isplitl [HF13]; · iexact HF13
    isplitl [HO]; · iexact HO
    iexact Hmw
  iintro ⟨%g13, %hg13, H13, Ht13, Hl13, Hs13, HO⟩
  sl_exec
  rw [t5_eq, bind_assoc]
  iapply (wp_acc d L a13 h13 g13 A') $$ [H13]
  · iexact H13
  iintro H13
  rw [hg13]
  generalize hB' : addRows (F := F) (gatF _ _) A' 100 = B'
  simp only [lanes, pure_bind]
  sl_exec
  sl_step
  isplitl [HN10]; · iexact HN10
  isplitl [HN11]; · iexact HN11
  isplitl [H12 Ht12 Hl12 Hs12]
  · unfold Rest
    iexists g12
    isplitl [H12]; · iexact H12
    isplitl [Ht12]; · iexact Ht12
    isplitl [Hl12]; · iexact Hl12
    iexact Hs12
  isplitl [H13 Ht13 Hl13 Hs13]
  · unfold Rest
    iexists g13
    isplitl [H13]; · iexact H13
    isplitl [Ht13]; · iexact Ht13
    isplitl [Hl13]; · iexact Hl13
    iexact Hs13
  isplitl [Hu]; · iexact Hu
  isplitl [H14]
  · iexists _
    isplitr
    rotate_left
    · iexact H14
    · ipureintro
      intro r l hr
      by_cases hlt : r.val < 2 * k.val
      · rw [View.read_writes_apply_of_forall_not_mem]
        · exact hf14 r l hlt
        · simp only [List.forall_mem_cons]
          exact ⟨not_mem_piece _ _ _ _ (k0_off56_eq k) _ (by show r.val < _; omega), not_mem_piece _ _ _ _ (k0_off55_eq k) _ (by show r.val < _; omega), not_mem_piece _ _ _ _ (k0_off54_eq k) _ (by show r.val < _; omega), not_mem_piece _ _ _ _ (k0_off53_eq k) _ (by show r.val < _; omega), not_mem_piece _ _ _ _ (k0_off52_eq k) _ (by show r.val < _; omega), not_mem_piece _ _ _ _ (k0_off51_eq k) _ (by show r.val < _; omega), not_mem_piece _ _ _ _ (k0_off50_eq k) _ (by show r.val < _; omega), not_mem_piece _ _ _ _ (k0_off49_eq k) _ (by show r.val < _; omega), not_mem_piece _ _ _ _ (k0_off30_eq k) _ (by show r.val < _; omega), not_mem_piece _ _ _ _ (k0_off29_eq k) _ (by show r.val < _; omega), not_mem_piece _ _ _ _ (k0_off28_eq k) _ (by show r.val < _; omega), not_mem_piece _ _ _ _ (k0_off27_eq k) _ (by show r.val < _; omega), not_mem_piece _ _ _ _ (k0_off26_eq k) _ (by show r.val < _; omega), not_mem_piece _ _ _ _ (k0_off25_eq k) _ (by show r.val < _; omega), not_mem_piece _ _ _ _ (k0_off24_eq k) _ (by show r.val < _; omega), not_mem_piece _ _ _ _ (k0_off23_eq k) _ (by show r.val < _; omega), fun _ h => absurd h List.not_mem_nil⟩
      · obtain ⟨G, hG⟩ : ∃ G : S32x128.Idx → F .f32, G = fun y => outRow (a9.view.read (Elt F) fu) (a5.view.read (Elt F) ft) (a8.view.read (Elt F) fl) (y 0) (y 1) :=
          ⟨_, rfl⟩
        have h0 : ∀ l, G (ixU ⟨2 * k.val, by omega⟩ l)
            = FloatOps.addf (a9.view.read (Elt F) fu (ixU ⟨2 * k.val, by omega⟩ l)) (FloatOps.mulf (B l) (Named.named κ "s" (φ := .f32) 0x3BA3D70A#32)) := by
          exact fun l => (congrFun hG _).trans (outRow_eq _ _ _ _ _ _ A B (by show 4 * k.val = 2 * (2 * k.val); omega) (by show 4 * k.val + 1 = 2 * (2 * k.val) + 1; omega) hA hB l)
        have h1 : ∀ l, G (ixU ⟨2 * k.val + 1, by omega⟩ l)
            = FloatOps.addf (a9.view.read (Elt F) fu (ixU ⟨2 * k.val + 1, by omega⟩ l)) (FloatOps.mulf (B' l) (Named.named κ "s" (φ := .f32) 0x3BA3D70A#32)) := by
          exact fun l => (congrFun hG _).trans (outRow_eq _ _ _ _ _ _ A' B' (by show 4 * k.val + 2 = 2 * (2 * k.val + 1); omega) (by show 4 * k.val + 3 = 2 * (2 * k.val + 1) + 1; omega) hA' hB' l)
        refine (View.read_writes_apply_of_pieces (Val := Elt F) (e := .f32) _ _ G _ ?_ (ixU r l) ?_).trans (congrFun hG _)
        · simp only [List.forall_mem_cons]
          exact ⟨piece_eq d L a9 fu G B' _ h1 7 _ (k0_off56_eq k) _, piece_eq d L a9 fu G B' _ h1 6 _ (k0_off55_eq k) _, piece_eq d L a9 fu G B' _ h1 5 _ (k0_off54_eq k) _, piece_eq d L a9 fu G B' _ h1 4 _ (k0_off53_eq k) _, piece_eq d L a9 fu G B' _ h1 3 _ (k0_off52_eq k) _, piece_eq d L a9 fu G B' _ h1 2 _ (k0_off51_eq k) _, piece_eq d L a9 fu G B' _ h1 1 _ (k0_off50_eq k) _, piece_eq d L a9 fu G B' _ h1 0 _ (k0_off49_eq k) _, piece_eq d L a9 fu G B _ h0 7 _ (k0_off30_eq k) _, piece_eq d L a9 fu G B _ h0 6 _ (k0_off29_eq k) _, piece_eq d L a9 fu G B _ h0 5 _ (k0_off28_eq k) _, piece_eq d L a9 fu G B _ h0 4 _ (k0_off27_eq k) _, piece_eq d L a9 fu G B _ h0 3 _ (k0_off26_eq k) _, piece_eq d L a9 fu G B _ h0 2 _ (k0_off25_eq k) _, piece_eq d L a9 fu G B _ h0 1 _ (k0_off24_eq k) _, piece_eq d L a9 fu G B _ h0 0 _ (k0_off23_eq k) _, fun _ h => absurd h List.not_mem_nil⟩
        · by_contra hno
          simp only [List.mem_cons, not_exists, not_and, forall_eq_or_imp] at hno
          obtain ⟨n0, n1, n2, n3, n4, n5, n6, n7, n8, n9, n10, n11, n12, n13, n14, n15, -⟩ := hno
          have hl : l.val < 128 := l.isLt
          have m := fun (r' c : ℕ) (off : Fin 2 → ℕ) (ho : off = ![r', c]) inb (hn : ixU r l ∉ (Rect.unit (s := S32x128) off S1x16.size inb).set)
              => show ¬ (r.val = r' ∧ c ≤ l.val ∧ l.val < c + 16) from fun h => hn (mem_piece (ixU r l) r' c off ho inb h)
          have q1 : ∀ c : Fin 8, ¬ (r.val = 2 * k.val + 1 ∧ 16 * c.val ≤ l.val ∧ l.val < 16 * c.val + 16) := fun c => match c with
            | 0 => m _ _ _ (k0_off49_eq k) _ n7
            | 1 => m _ _ _ (k0_off50_eq k) _ n6
            | 2 => m _ _ _ (k0_off51_eq k) _ n5
            | 3 => m _ _ _ (k0_off52_eq k) _ n4
            | 4 => m _ _ _ (k0_off53_eq k) _ n3
            | 5 => m _ _ _ (k0_off54_eq k) _ n2
            | 6 => m _ _ _ (k0_off55_eq k) _ n1
            | 7 => m _ _ _ (k0_off56_eq k) _ n0
          have q0 : ∀ c : Fin 8, ¬ (r.val = 2 * k.val ∧ 16 * c.val ≤ l.val ∧ l.val < 16 * c.val + 16) := fun c => match c with
            | 0 => m _ _ _ (k0_off23_eq k) _ n15
            | 1 => m _ _ _ (k0_off24_eq k) _ n14
            | 2 => m _ _ _ (k0_off25_eq k) _ n13
            | 3 => m _ _ _ (k0_off26_eq k) _ n12
            | 4 => m _ _ _ (k0_off27_eq k) _ n11
            | 5 => m _ _ _ (k0_off28_eq k) _ n10
            | 6 => m _ _ _ (k0_off29_eq k) _ n9
            | 7 => m _ _ _ (k0_off30_eq k) _ n8
          have e1 := q1 ⟨l.val / 16, by omega⟩
          have e0 := q0 ⟨l.val / 16, by omega⟩
          clear q0 q1 m
          simp only at e0 e1
          omega
  isplitl []; · iexact Hmw
  iexists _
  isplitr
  rotate_left
  · iexact HO
  · ipureintro
    intro p hp
    simp only [Set.mem_insert_iff, Finset.mem_insert] at hp
    rcases hp with rfl | rfl | rfl | rfl | hp
    · exact Or.inr rfl
    · exact Or.inr rfl
    · exact Or.inr rfl
    · exact Or.inr rfl
    · exact hW0 p hp

end Trip

end Cert.Proof.Pool

end
-- ==== Proof.Tile.lean ====
/-
  One task, whole: the words it looks up fetched, the users' rows gathered, the loop over pairs of rows, and the sums
  written out — from shares of the operands and the task's own rows of the result to the same with those rows done.
-/
module

public import proofs.«01_k».proof.Proof.Trip

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## Four shares of one buffer -/

/-- A share in four. -/
def quarter (q : PosShare TreeShare) : Fin 4 → PosShare TreeShare
  | 0 => q.left.left
  | 1 => q.left.right
  | 2 => q.right.left
  | 3 => q.right.right

theorem quarters_split {ℓ : Loc nD τ sig} (I : Finset (Idx ℓ)) (q : PosShare TreeShare) (f : Buf (Elt F) ℓ) :
    (ℓ ↦[I]{q} f : sProp 𝕄) ⊢ iprop((ℓ ↦[I]{quarter q 0} f) ∗ (ℓ ↦[I]{quarter q 1} f) ∗ (ℓ ↦[I]{quarter q 2} f) ∗ (ℓ ↦[I]{quarter q 3} f)) := by
  iintro H
  ihave H := (pointsTo_share (PosShare.mem_left_op_right q)).1 $$ H
  icases H with ⟨Ha, Hb⟩
  ihave Ha := (pointsTo_share (PosShare.mem_left_op_right q.left)).1 $$ Ha
  ihave Hb := (pointsTo_share (PosShare.mem_left_op_right q.right)).1 $$ Hb
  icases Ha with ⟨H0, H1⟩
  icases Hb with ⟨H2, H3⟩
  isplitl [H0]; · iexact H0
  isplitl [H1]; · iexact H1
  isplitl [H2]; · iexact H2
  iexact H3

theorem quarters_join {ℓ : Loc nD τ sig} (I : Finset (Idx ℓ)) (q : PosShare TreeShare) (f : Buf (Elt F) ℓ) :
    iprop((ℓ ↦[I]{quarter q 0} f) ∗ (ℓ ↦[I]{quarter q 1} f) ∗ (ℓ ↦[I]{quarter q 2} f) ∗ (ℓ ↦[I]{quarter q 3} f)) ⊢ (ℓ ↦[I]{q} f : sProp 𝕄) := by
  iintro ⟨H0, H1, H2, H3⟩
  iapply (pointsTo_share (PosShare.mem_left_op_right q)).2
  isplitl [H0 H1]
  · iapply (pointsTo_share (PosShare.mem_left_op_right q.left)).2
    isplitl [H0]; · iexact H0
    iexact H1
  · iapply (pointsTo_share (PosShare.mem_left_op_right q.right)).2
    isplitl [H2]; · iexact H2
    iexact H3

section Body

variable (d : Dev nD) (L : grid0.Coords)
variable (a2 : Memref sig .scVector .hbm S1024 .i32) (h2 : a2.IsWhole) (a3 : Memref sig .scVector .hbm S2048x100 .i32) (h3 : a3.IsWhole)
  (a4 : Memref sig .scVector .hbm S100000x128 .f32) (h4 : a4.IsWhole) (a5 : Memref sig .scVector .hbm S100000x128 .f32) (h5 : a5.IsWhole)
  (a6 : Memref sig .scVector .hbm S1024x128 .f32) (h6 : a6.IsWhole) (a7 : Memref sig .scVector .vmem S32 .i32) (h7 : a7.IsWhole)
  (a8 : Memref sig .scVector .vmem S64x100 .i32) (h8 : a8.IsWhole) (a9 : Memref sig .scVector .vmem S32x128 .f32) (h9 : a9.IsWhole)
  (a10 : Memref sig .scVector .vmem S100x128 .f32) (h10 : a10.IsWhole) (a11 : Memref sig .scVector .vmem S100x128 .f32) (h11 : a11.IsWhole)
  (a12 : Memref sig .scVector .vmem S100x128 .f32) (h12 : a12.IsWhole) (a13 : Memref sig .scVector .vmem S100x128 .f32) (h13 : a13.IsWhole)
  (a14 : Memref sig .scVector .vmem S32x128 .f32) (h14 : a14.IsWhole)
  (a15 a16 a17 a18 a19 a20 r0 r1 : DmaSems sig S_)

/-- The task's own words and rows, as it addresses them. -/
abbrev wordsK : Memref sig .scVector .hbm S64x100 .i32 := a3.slice (Rect.unit (s := S2048x100) (k0_off1 L) S64x100.size (k0_off1_inb L)) (fun _ => rfl)
abbrev idsK : Memref sig .scVector .hbm S32 .i32 := a2.slice (Rect.unit (s := S1024) (k0_off2 L) S32.size (k0_off2_inb L)) (fun _ => rfl)
abbrev outK : Memref sig .scVector .hbm S32x128 .f32 := a6.slice (Rect.unit (s := S1024x128) (k0_off57 L) S32x128.size (k0_off57_inb L)) (fun _ => rfl)

/-- The users' rows, as they are gathered. -/
def userF (t : S100000x128.Idx → F .f32) (w : S32.Idx → BitVec 32) : S32x128.Idx → F .f32 := fun x => t (ixT (rowOf (w (ix1 (x 0)))) (x 1))

/-- What a task brings back of its buffers and semaphores. -/
def Scratch : sProp 𝕄 :=
  iprop((∃ f, a7.view.loc (VT d L) ↦[a7.view.set]{fullShare} f) ∗ (∃ f, a8.view.loc (VT d L) ↦[a8.view.set]{fullShare} f)
    ∗ (∃ f, a9.view.loc (VT d L) ↦[a9.view.set]{fullShare} f) ∗ (∃ f, a10.view.loc (VT d L) ↦[a10.view.set]{fullShare} f)
    ∗ (∃ f, a11.view.loc (VT d L) ↦[a11.view.set]{fullShare} f) ∗ (∃ f, a12.view.loc (VT d L) ↦[a12.view.set]{fullShare} f)
    ∗ (∃ f, a13.view.loc (VT d L) ↦[a13.view.set]{fullShare} f) ∗ (∃ f, a14.view.loc (VT d L) ↦[a14.view.set]{fullShare} f))

def Zeros : sProp 𝕄 :=
  iprop(semVal (VT d L, SemLoc.dma a15.sem) 0 ∗ semVal (VT d L, SemLoc.dma a16.sem) 0 ∗ semVal (VT d L, SemLoc.dma a17.sem) 0 ∗ semVal (VT d L, SemLoc.dma a18.sem) 0
    ∗ semVal (VT d L, SemLoc.dma a19.sem) 0 ∗ semVal (VT d L, SemLoc.dma a20.sem) 0 ∗ semVal (VT d L, SemLoc.dma r0.sem) 0 ∗ semVal (VT d L, SemLoc.dma r1.sem) 0)

variable (fi : Buf (Elt F) (a2.view.loc (VT d L))) (fv : Buf (Elt F) (a3.view.loc (VT d L))) (fut : Buf (Elt F) (a4.view.loc (VT d L)))
  (ft : Buf (Elt F) (a5.view.loc (VT d L))) (fo : Buf (Elt F) (a6.view.loc (VT d L)))
  (O : CellTallies nD τ sig (HIx 1)) (W : Waits sig (HIx 1)) (q2 q3 q4 q5 : PosShare TreeShare)

/-- The operands at their shares. -/
def Operands : sProp 𝕄 :=
  iprop((a2.view.loc (VT d L) ↦[a2.view.set]{q2} fi) ∗ (a3.view.loc (VT d L) ↦[a3.view.set]{q3} fv)
    ∗ (a4.view.loc (VT d L) ↦[a4.view.set]{q4} fut) ∗ (a5.view.loc (VT d L) ↦[a5.view.set]{q5} ft))

/-- Writing the sums out. -/
theorem wp_out (g14 : Buf (Elt F) (a14.view.loc (VT d L))) (Q : PUnit → sProp 𝕄) :
    iprop(((outK L a6).view.loc (VT d L) ↦[(outK L a6).view.set]{fullShare} fo) ∗ (a14.view.loc (VT d L) ↦[a14.view.set]{fullShare} g14)
        ∗ semVal (VT d L, SemLoc.dma r1.sem) 0
        ∗ Transfers.MayWaits (VT d L) (default : HIx 1) O ∗ owes (VT d L) O W)
      ⊢ iprop((iprop((∃ f, ⌜(outK L a6).view.read (Elt F) f = a14.view.read (Elt F) g14⌝ ∗ ((outK L a6).view.loc (VT d L) ↦[(outK L a6).view.set]{fullShare} f))
            ∗ (a14.view.loc (VT d L) ↦[a14.view.set]{fullShare} g14) ∗ semVal (VT d L, SemLoc.dma r1.sem) 0
            ∗ owes (VT d L) O (insert (SemLoc.dma r1.sem, (default : HIx 1)) W)) -∗ Q ⟨⟩)
        -∗ wp frame (wpE (defs₀ (F := F)) 𝒱₀ (VT d L) none) Set.univ
          (do
            Prog.lift (.enqueueDma a14 (.here (outK L a6)) (.dma r1.sem) h14.wordExact (View.wordExact_bits rfl) ⟨Or.inl rfl, trivial⟩)
            Prog.lift (.waitDma2 r1.sem a14 (outK L a6) h14.wordExact (View.wordExact_bits rfl))
            pure ⟨⟩) Q) := by
  iintro ⟨Ho, H14, Hr1, #Hmw, HO⟩ Hk
  sl_exec
  sl_step
  iapply Hk
  isplitl [Ho]
  · iexists _
    isplitr
    rotate_left
    · iexact Ho
    ipureintro
    exact View.read_writes_whole (Val := Elt F) (outK L a6).view fo (a14.view.read (Elt F) g14)
  isplitl [H14]; · iexact H14
  isplitl [Hr1]; · iexact Hr1
  iexact HO

set_option maxHeartbeats 1000000 in
theorem wp_task (hu : ∀ x, ((idsK L a2).view.read (Elt F) fi x).toNat < 100000) (hw : ∀ x, ((wordsK L a3).view.read (Elt F) fv x).toNat < 100000) :
    iprop(Operands d L a2 a3 a4 a5 fi fv fut ft q2 q3 q4 q5 ∗ ((outK L a6).view.loc (VT d L) ↦[(outK L a6).view.set]{fullShare} fo)
        ∗ Scratch (F := F) d L a7 a8 a9 a10 a11 a12 a13 a14 ∗ Zeros (F := F) d L a15 a16 a17 a18 a19 a20 r0 r1
        ∗ Transfers.MayWaits (VT d L) (default : HIx 1) O ∗ owes (VT d L) O W)
      ⊢ wp frame (wpE (defs₀ (F := F)) 𝒱₀ (VT d L) none) Set.univ
          (cc0__sc_body (F := F) L a2 h2 a3 h3 a4 h4 a5 h5 a6 h6 a7 h7 a8 h8 a9 h9 a10 h10 a11 h11 a12 h12 a13 h13 a14 h14 a15 a16 a17 a18 a19 a20 r0 r1)
          fun _ => iprop(Operands d L a2 a3 a4 a5 fi fv fut ft q2 q3 q4 q5
            ∗ (∃ f, ⌜∀ r l, (outK L a6).view.read (Elt F) f (ixU r l) = outRow (userF (a4.view.read (Elt F) fut) ((idsK L a2).view.read (Elt F) fi))
                (a5.view.read (Elt F) ft) ((wordsK L a3).view.read (Elt F) fv) r l⌝ ∗ ((outK L a6).view.loc (VT d L) ↦[(outK L a6).view.set]{fullShare} f))
            ∗ Scratch (F := F) d L a7 a8 a9 a10 a11 a12 a13 a14 ∗ Zeros (F := F) d L a15 a16 a17 a18 a19 a20 r0 r1
            ∗ ∃ W', ⌜∀ p ∈ W', p ∈ W ∨ p.2 = none⌝ ∗ owes (VT d L) O W') := by
  rw [cc0__sc_body_eq_skeleton]
  unfold cc0__sc_body_skel
  rw [wp_bind, k0_part6_eq_skeleton]
  unfold k0_part6_skel Operands Scratch Zeros
  iintro ⟨⟨Hi, Hv, Hut, Ht⟩, Ho, ⟨⟨%f7, H7⟩, ⟨%f8, H8⟩, ⟨%f9, H9⟩, ⟨%f10, H10⟩, ⟨%f11, H11⟩, ⟨%f12, H12⟩, ⟨%f13, H13⟩, ⟨%f14, H14⟩⟩,
    ⟨Hs15, Hs16, Hs17, Hs18, Hs19, Hs20, Hr0, Hr1⟩, #Hmw, HO⟩
  sl_exec
  have e7 : a7.view.read (Elt F) (a7.view.writes (Elt F) a7.view.junk [⟨Rect.whole S32, wp_task.sl.dma0_1 d L a2 fi⟩]) = (idsK L a2).view.read (Elt F) fi := by
    rw [View.read_writes_whole]; rfl
  generalize a7.view.writes (Elt F) a7.view.junk [⟨Rect.whole S32, wp_task.sl.dma0_1 d L a2 fi⟩] = g7 at e7
  iapply (wp_gather d L (by decide) a4 a9 a7 a15.sem gathers_S100000x128_S32x128 rfl q4 fullShare fut f9 g7 (fun x => by rw [e7]; exact hu x)) $$ [Hut H9 H7 Hs15]
  · isplitl [Hut]; · iexact Hut
    isplitl [H9]; · iexact H9
    isplitl [H7]; · iexact H7
    iexact Hs15
  iintro HF9
  sl_exec
  have e8 : a8.view.read (Elt F) (a8.view.writes (Elt F) a8.view.junk [⟨Rect.whole S64x100, wp_task.sl.dma0 d L a3 fv⟩]) = (wordsK L a3).view.read (Elt F) fv := by
    rw [View.read_writes_whole]; rfl
  generalize a8.view.writes (Elt F) a8.view.junk [⟨Rect.whole S64x100, wp_task.sl.dma0 d L a3 fv⟩] = g8 at e8
  have hin : InRange (F := F) a8 g8 := fun x => by rw [e8]; exact hw x
  ihave Hts := (quarters_split a5.view.set q5 ft) $$ Ht
  icases Hts with ⟨Ht0, Ht1, Ht2, Ht3⟩
  ihave H8s := (quarters_split a8.view.set fullShare g8) $$ H8
  icases H8s with ⟨Hl0, Hl1, Hl2, Hl3⟩
  iapply (wp_gatherRow d L a5 a8 a10 a17.sem ⟨0, by decide⟩ ![0, 0] rfl _ (quarter q5 0) (quarter fullShare 0) ft f10 g8 hin) $$ [H10 Ht0 Hl0 Hs17]
  · isplitl [Ht0]; · iexact Ht0
    isplitl [H10]; · iexact H10
    isplitl [Hl0]; · iexact Hl0
    iexact Hs17
  iintro HF10
  iapply (wp_gatherRow d L a5 a8 a11 a18.sem ⟨1, by decide⟩ ![1, 0] rfl _ (quarter q5 1) (quarter fullShare 1) ft f11 g8 hin) $$ [H11 Ht1 Hl1 Hs18]
  · isplitl [Ht1]; · iexact Ht1
    isplitl [H11]; · iexact H11
    isplitl [Hl1]; · iexact Hl1
    iexact Hs18
  iintro HF11
  sl_exec
  iapply (wp_await d L a9 a15.sem _ (tabK a4) _ _ O _) $$ [HF9 HO]
  · isplitl [HF9]; · iexact HF9
    isplitl [HO]; · iexact HO
    iexact Hmw
  iintro ⟨⟨%fu, %hfu, H9, Hut, H7⟩, Hs15, HO⟩
  sl_step
  iapply (Scf.wp_for_bind (Idealize.ShloMosaic.frame) (wpE (defs₀ (F := F)) 𝒱₀ (VT d L) none) Set.univ _ _ _ _ _ _
    (fun k _ => tripInv d L a5 a8 a9 a10 a11 a12 a13 a14 a17 a18 a19 a20 fu ft g8 O W (quarter q5) (quarter fullShare) k)
    (fun k u => trip_step d L a2 h2 a3 h3 a4 h4 a5 h5 a6 h6 a7 h7 a8 h8 a9 h9 a10 h10 a11 h11 a12 h12 a13 h13 a14 h14 a15 a16 a17 a18 a19 a20 r0 r1 fu ft g8 O W (quarter q5) (quarter fullShare) hin k u))
    $$ [HF10 HF11 H12 Ht2 Hl2 Hs19 H13 Ht3 Hl3 Hs20 H9 H14 HO]
  · unfold tripInv Next Rest Done
    rw [if_pos (by decide), if_pos (by decide)]
    isplitl [HF10]; · iexact HF10
    isplitl [HF11]; · iexact HF11
    isplitl [H12 Ht2 Hl2 Hs19]
    · iexists f12
      isplitl [H12]; · iexact H12
      isplitl [Ht2]; · iexact Ht2
      isplitl [Hl2]; · iexact Hl2
      iexact Hs19
    isplitl [H13 Ht3 Hl3 Hs20]
    · iexists f13
      isplitl [H13]; · iexact H13
      isplitl [Ht3]; · iexact Ht3
      isplitl [Hl3]; · iexact Hl3
      iexact Hs20
    isplitl [H9]; · iexact H9
    isplitl [H14]
    · iexists f14
      isplitr
      · ipureintro
        intro r l h
        exact absurd h (Nat.not_lt_zero _)
      iexact H14
    isplitr
    · iexact Hmw
    iexists _
    isplitr
    rotate_left
    · iexact HO
    ipureintro
    intro p hp
    simp only [Finset.mem_insert] at hp
    rcases hp with rfl | rfl | rfl | hp
    · exact Or.inr rfl
    · exact Or.inr rfl
    · exact Or.inr rfl
    · exact Or.inl hp
  iintro %u HI
  have hN : Scf.trips _ _ _ = 16 := (rfl : k0_t1_loop.trips = 16)
  rw [hN]
  unfold tripInv Next Rest Done
  rw [if_neg (by decide), if_neg (by decide)]
  icases HI with ⟨⟨%g10, H10, Ht0, Hl0, Hs17⟩, ⟨%g11, H11, Ht1, Hl1, Hs18⟩, ⟨%g12, H12, Ht2, Hl2, Hs19⟩, ⟨%g13, H13, Ht3, Hl3, Hs20⟩, H9, ⟨%g14, %hg14, H14⟩, Hmw', ⟨%W0, %hW0, HO⟩⟩
  ihave Ht := (quarters_join (ℓ := a5.view.loc (VT d L)) a5.view.set q5 ft) $$ [Ht0 Ht1 Ht2 Ht3]
  · isplitl [Ht0]; · iexact Ht0
    isplitl [Ht1]; · iexact Ht1
    isplitl [Ht2]; · iexact Ht2
    iexact Ht3
  ihave H8 := (quarters_join (ℓ := a8.view.loc (VT d L)) a8.view.set fullShare g8) $$ [Hl0 Hl1 Hl2 Hl3]
  · isplitl [Hl0]; · iexact Hl0
    isplitl [Hl1]; · iexact Hl1
    isplitl [Hl2]; · iexact Hl2
    iexact Hl3
  sl_step
  iapply (wp_out d L a6 a14 h14 r1 fo O W0 g14 _) $$ [Ho H14 Hr1 HO]
  · isplitl [Ho]; · iexact Ho
    isplitl [H14]; · iexact H14
    isplitl [Hr1]; · iexact Hr1
    isplitr
    · iexact Hmw
    iexact HO
  iintro ⟨⟨%f6, %e6, Ho⟩, H14, Hr1, HO⟩
  isplitl [Hi Hv Hut Ht]
  · isplitl [Hi]; · iexact Hi
    isplitl [Hv]; · iexact Hv
    isplitl [Hut]; · iexact Hut
    iexact Ht
  isplitl [Ho]
  · iexists _
    isplitr
    rotate_left
    · iexact Ho
    ipureintro
    intro r l
    have eu : a9.view.read (Elt F) fu = userF (a4.view.read (Elt F) fut) ((idsK L a2).view.read (Elt F) fi) := by
      rw [← e7]; funext x; exact hfu x
    refine (congrFun e6 (ixU r l)).trans ((hg14 r l (by omega)).trans ?_)
    rw [eu, e8]
  isplitl [H7 H8 H9 H10 H11 H12 H13 H14]
  · isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  isplitl [Hs15 Hs16 Hs17 Hs18 Hs19 Hs20 Hr0 Hr1]
  · isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hr0]; · iexact Hr0
    iexact Hr1
  iexists _
  isplitr
  rotate_left
  · iexact HO
  ipureintro
  intro p hp
  simp only [Finset.mem_insert] at hp
  rcases hp with rfl | hp
  · exact Or.inr rfl
  · exact hW0 p hp

end Body

end Cert.Proof.Pool

end
-- ==== Proof.Rows.lean ====
/-
  Where each task's rows lie in the arrays, and the array all tasks write together.

  Task `(c, s)` takes user ids `64 s + 32 c …`, the two rows of a hundred words for each of them, and writes result rows
  `64 s + 32 c …`. `pooled` is the whole array at the end; a task's rows of it are what the task wrote (`out_eq`).
-/
module

public import proofs.«01_k».proof.Proof.Tile

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

abbrev ixW (r : Fin 2048) (n : Fin 100) : S2048x100.Idx := fun | 0 => r | 1 => n
abbrev ixO (r : Fin 1024) (l : Fin 128) : S1024x128.Idx := fun | 0 => r | 1 => l

/-- Row `b`'s `h`-th hundred of words. -/
def halfB (b : Fin 1024) (h : Fin 2) : Fin 2048 := ⟨2 * b.val + h.val, by omega⟩

/-- The array the tasks write: the user's row plus the two hundred listed rows, added one after the other, times the
    constant. -/
def pooled (u t : S100000x128.Idx → F .f32) (ids : S1024.Idx → BitVec 32) (ws : S2048x100.Idx → BitVec 32) (b : Fin 1024) (l : Fin 128) : F .f32 :=
  FloatOps.addf (u (ixT (rowOf (ids (ix1 b))) l))
    (FloatOps.mulf
      (addRows (gatF t fun i => ws (ixW (halfB b 1) i)) (addRows (gatF t fun i => ws (ixW (halfB b 0) i)) zrow 100) 100 l)
      (Named.named κ "s" (φ := .f32) 0x3BA3D70A#32))

/-- The task at core `c`, subcore `s`. -/
abbrev pair (c : Fin 2) (s : Fin 16) : grid0.Coords := fun | 0 => c | 1 => s | ⟨_ + 2, h⟩ => absurd h (Nat.not_lt.2 (Nat.le_add_left _ _))

/-- The first row of a task. -/
abbrev base (L : grid0.Coords) : ℕ := 64 * (L 1).val + 32 * (L 0).val

theorem base_lt (L : grid0.Coords) (r : Fin 32) : base L + r.val < 1024 := by
  have h0 : (L 0).val < 2 := (L 0).isLt
  have h1 : (L 1).val < 16 := (L 1).isLt
  have := r.isLt
  show 64 * (L 1).val + 32 * (L 0).val + r.val < 1024
  omega

/-- Row `r` of a task, in the whole array. -/
abbrev rowAt (L : grid0.Coords) (r : Fin 32) : Fin 1024 := ⟨base L + r.val, base_lt L r⟩

abbrev oV : Memref sig .scVector .hbm S1024x128 .f32 := Memref.whole main_v1_scv
abbrev iV : Memref sig .scVector .hbm S1024 .i32 := Memref.whole main_arg0_scv
abbrev wV : Memref sig .scVector .hbm S2048x100 .i32 := Memref.whole main_v0_scv
abbrev uV : Memref sig .scVector .hbm S100000x128 .f32 := Memref.whole main_arg3_scv
abbrev tV : Memref sig .scVector .hbm S100000x128 .f32 := Memref.whole main_arg4_scv

/-- The elements of the result a task writes. -/
abbrev outSet (L : grid0.Coords) : Finset S1024x128.Idx := (outK L oV).view.set

theorem mem_outSet (L : grid0.Coords) (x : S1024x128.Idx) : x ∈ outSet L ↔ base L ≤ (x 0).val ∧ (x 0).val < base L + 32 := by
  show x ∈ ((View.whole main_v1_scv).slice (Rect.unit (s := S1024x128) (k0_off57 L) S32x128.size (k0_off57_inb L))).set ↔ _
  rw [View.set_slice_whole]
  refine Rect.mem_set_unit.trans ?_
  rw [k0_off57_eq]
  constructor
  · intro h; exact h 0
  · intro h a
    match a with
    | 0 => exact h
    | 1 => exact ⟨Nat.zero_le _, by show (x 1).val < 0 + 128; have : (x 1).val < 128 := (x 1).isLt; omega⟩

theorem outSet_disjoint (p p' : Fin 2 × Fin 16) (h : p ≠ p') : Disjoint (outSet (pair p.1 p.2)) (outSet (pair p'.1 p'.2)) := by
  refine Finset.disjoint_left.mpr fun x hx hx' => h ?_
  rw [mem_outSet] at hx hx'
  change 64 * p.2.val + 32 * p.1.val ≤ _ ∧ _ < 64 * p.2.val + 32 * p.1.val + 32 at hx
  change 64 * p'.2.val + 32 * p'.1.val ≤ _ ∧ _ < 64 * p'.2.val + 32 * p'.1.val + 32 at hx'
  have := p.1.isLt; have := p'.1.isLt
  exact Prod.ext (Fin.ext (by omega)) (Fin.ext (by omega))

theorem outSet_cover : (Finset.univ : Finset (Fin 2 × Fin 16)).biUnion (fun p => outSet (pair p.1 p.2)) = Finset.univ := by
  ext x
  simp only [Finset.mem_biUnion, Finset.mem_univ, true_and, iff_true]
  have hx : (x 0).val < 1024 := (x 0).isLt
  refine ⟨(⟨(x 0).val / 32 % 2, by omega⟩, ⟨(x 0).val / 64, by omega⟩), ?_⟩
  rw [mem_outSet]
  show 64 * ((x 0).val / 64) + 32 * ((x 0).val / 32 % 2) ≤ _ ∧ _ < 64 * ((x 0).val / 64) + 32 * ((x 0).val / 32 % 2) + 32
  omega

theorem read_out (L : grid0.Coords) (f : S1024x128.Idx → F .f32) (r : Fin 32) (l : Fin 128) : (outK L oV).view.read (Elt F) f (ixU r l) = f (ixO (rowAt L r) l) := by
  refine (View.read_apply _ _).trans ((cast_eq _ _).trans (congrArg f ?_))
  funext a
  apply Fin.ext
  show (k0_off57 L) a + 1 * (ixU r l a).val = _
  rw [k0_off57_eq]
  match a with
  | 0 => show base L + 1 * r.val = base L + r.val; omega
  | 1 => show 0 + 1 * l.val = l.val; omega

theorem read_ids (L : grid0.Coords) (f : S1024.Idx → BitVec 32) (r : Fin 32) : (idsK L iV).view.read (Elt F) f (ix1 r) = f (ix1 (rowAt L r)) := by
  refine (View.read_apply _ _).trans ((cast_eq _ _).trans (congrArg f ?_))
  funext a
  apply Fin.ext
  show (k0_off2 L) a + 1 * (ix1 r a).val = _
  rw [k0_off2_eq]
  match a with
  | 0 => show base L + 1 * r.val = base L + r.val; omega

theorem read_words (L : grid0.Coords) (f : S2048x100.Idx → BitVec 32) (r : Fin 32) (h : Fin 2) (n : Fin 100) :
    (wordsK L wV).view.read (Elt F) f (ixL (half r h) n) = f (ixW (halfB (rowAt L r) h) n) := by
  refine (View.read_apply _ _).trans ((cast_eq _ _).trans (congrArg f ?_))
  funext a
  apply Fin.ext
  show (k0_off1 L) a + 1 * (ixL (half r h) n a).val = _
  rw [k0_off1_eq]
  match a with
  | 0 => show 128 * (L 1).val + 64 * (L 0).val + 1 * (2 * r.val + h.val) = 2 * (64 * (L 1).val + 32 * (L 0).val + r.val) + h.val; omega
  | 1 => show 0 + 1 * n.val = n.val; omega

theorem outRow_pooled (L : grid0.Coords) (u t : S100000x128.Idx → F .f32) (ids : S1024.Idx → BitVec 32) (ws : S2048x100.Idx → BitVec 32) (r : Fin 32) (l : Fin 128) :
    outRow (userF (uV.view.read (Elt F) u) ((idsK L iV).view.read (Elt F) ids)) (tV.view.read (Elt F) t) ((wordsK L wV).view.read (Elt F) ws) r l
      = pooled u t ids ws (rowAt L r) l := by
  unfold outRow pooled userF
  simp only [read_words (F := F)]
  rw [show (ixU r l) 0 = r from rfl, read_ids (F := F)]
  rfl

/-- What a task wrote is its rows of the whole. -/
theorem out_eq (L : grid0.Coords) (u t : S100000x128.Idx → F .f32) (ids : S1024.Idx → BitVec 32) (ws : S2048x100.Idx → BitVec 32) (f : S1024x128.Idx → F .f32)
    (h : ∀ r l, (outK L oV).view.read (Elt F) f (ixU r l)
      = outRow (userF (uV.view.read (Elt F) u) ((idsK L iV).view.read (Elt F) ids)) (tV.view.read (Elt F) t) ((wordsK L wV).view.read (Elt F) ws) r l) :
    ∀ x ∈ outSet L, f x = pooled u t ids ws (x 0) (x 1) := by
  intro x hx
  rw [mem_outSet] at hx
  have hr : (x 0).val - base L < 32 := by omega
  obtain ⟨r, l, e⟩ : ∃ (r : Fin 32) (l : Fin 128), x = ixO (rowAt L r) l := by
    refine ⟨⟨(x 0).val - base L, hr⟩, x 1, ?_⟩
    funext a
    match a with
    | 0 => apply Fin.ext; show (x 0).val = base L + ((x 0).val - base L); omega
    | 1 => rfl
  subst e
  exact ((read_out (F := F) L f r l).symm.trans (h r l)).trans (outRow_pooled L u t ids ws r l)

end Cert.Proof.Pool

end
-- ==== Proof.Tasks.lean ====
/-
  The gathering call as the run sees it: what a core and a task are handed, what they bring back, and that the task's
  body does so.

  A core takes a share of the four arrays that are only read, and its sixteen tasks' rows of the result; a task takes a
  piece of the core's share, and its own rows, and brings them back at their rows of `pooled`.
-/
module

public import proofs.«01_k».proof.Proof.Rows

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.TcCoe
open Idealize.ShloMosaic.SparseCore.Cfg (ownRefs ownBufs ownSems0 ownCells)

/-- Distinct members taken out of a family, the rest left unnamed. -/
theorem bigSep_take {I : Type} [DecidableEq I] (S : Finset I) (Φ : I → sProp 𝕄) {n : ℕ} (e : Fin n → I) (inj : Function.Injective e) (h : ∀ k, e k ∈ S) :
    ∃ R : sProp 𝕄, bigSep S Φ = iprop((bigSep Finset.univ fun k => Φ (e k)) ∗ R) := by
  refine ⟨bigSep (S \ Finset.univ.map ⟨e, inj⟩) Φ, ?_⟩
  have hs : Finset.univ.map ⟨e, inj⟩ ⊆ S := fun x hx => by
    obtain ⟨k, -, rfl⟩ := Finset.mem_map.mp hx
    exact h k
  rw [SparseCore.bigSep_sdiff_split' hs, bigSep_map]
  rfl

/-- Eight of a family, one by one. -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The tasks' buffers and semaphores. -/
abbrev scr : Fin 8 → Ref sig .scVector :=
  ![cc0_scratch0, cc0_scratch1, cc0_scratch2, cc0_scratch3, cc0_scratch4, cc0_scratch5, cc0_scratch6, cc0_scratch7]
abbrev sem8 : Fin 8 → SemLoc sig :=
  ![.dma cc0_scratch8.sem, .dma cc0_scratch9.sem, .dma cc0_scratch10.sem, .dma cc0_scratch11.sem, .dma cc0_scratch12.sem, .dma cc0_scratch13.sem,
    .dma cc0_scoped0.sem, .dma cc0_scoped1.sem]

theorem scr_injective : Function.Injective scr := by decide
theorem sem8_injective : Function.Injective sem8 := by decide

theorem scr_own (p : Proc τ) (c : Fin τ.nSC) (i : Fin τ.nSub) (k : Fin 8) : (Proc.scVector c i).devRef (scr k) ∈ ownRefs (τ := τ) (sig := sig) (.scVector c i) := by
  refine SparseCore.Cfg.mem_ownRefs_of_owner ?_
  match k with
  | 0 => rfl | 1 => rfl | 2 => rfl | 3 => rfl | 4 => rfl | 5 => rfl | 6 => rfl | 7 => rfl

theorem sem8_scoped : ∀ k, (sem8 k).isScoped .scVector = true := by decide

section Own

variable (d : Dev nD) (L : grid0.Coords)

/-- A buffer held whole is held as its memref holds it. -/
theorem held_whole (b : Ref sig .scVector) (q : PosShare TreeShare) (f : Buf (Elt F) ((VT d L).loc b)) :
    ((VT d L).loc b ↦{q} f : sProp 𝕄) = ((Memref.whole b).view.loc (VT d L) ↦[(Memref.whole b).view.set]{q} f) := by
  have h : (Memref.whole b).view.set = Finset.univ := View.set_whole b
  rw [h]

theorem some_whole (b : Ref sig .scVector) : (iprop(∃ f, (VT d L).loc b ↦{fullShare} f) : sProp 𝕄)
    = iprop(∃ f, (Memref.whole b).view.loc (VT d L) ↦[(Memref.whole b).view.set]{fullShare} f) :=
  congrArg _ (funext fun f => held_whole d L b fullShare f)

theorem own_bufs : ∃ R : sProp 𝕄, (ownBufs (VT d L) : sProp 𝕄)
    = iprop(Scratch (F := F) d L (Memref.whole cc0_scratch0) (Memref.whole cc0_scratch1) (Memref.whole cc0_scratch2) (Memref.whole cc0_scratch3)
        (Memref.whole cc0_scratch4) (Memref.whole cc0_scratch5) (Memref.whole cc0_scratch6) (Memref.whole cc0_scratch7) ∗ R) := by
  obtain ⟨R, h⟩ := bigSep_take (F := F) (ownRefs (τ := τ) (.scVector (cV L) (jV L))) (fun b => iprop(∃ f, ((d, b) : Loc nD τ sig) ↦{fullShare} f))
    (fun k => (Proc.scVector (cV L) (jV L)).devRef (scr k)) (fun a b e => scr_injective (Proc.devRef_injective _ e)) (scr_own (.scVector (cV L) (jV L)) _ _)
  refine ⟨R, h.trans ?_⟩
  rw [bigSep_eight]
  unfold Scratch
  rw [← some_whole, ← some_whole, ← some_whole, ← some_whole, ← some_whole, ← some_whole, ← some_whole, ← some_whole]
  rfl

theorem own_sems : ∃ R : sProp 𝕄, (ownSems0 (VT d L) : sProp 𝕄)
    = iprop(Zeros (F := F) d L cc0_scratch8 cc0_scratch9 cc0_scratch10 cc0_scratch11 cc0_scratch12 cc0_scratch13 cc0_scoped0 cc0_scoped1 ∗ R) := by
  obtain ⟨R, h⟩ := bigSep_take (F := F) (ownCells (VT d L)) (fun g => semVal g 0)
    (fun k => (VT d L, sem8 k)) (fun a b e => sem8_injective (Prod.mk.inj e).2) (fun k => SparseCore.Cfg.mem_ownCells.mpr ⟨rfl, sem8_scoped k⟩)
  refine ⟨R, h.trans ?_⟩
  rw [bigSep_eight]
  rfl

end Own

variable (V : Dev nD → Valuation τ sig (Elt F))

abbrev iLoc (d : Dev nD) : Loc nD τ sig := (SparseCore.T d).loc main_arg0
abbrev wLoc (d : Dev nD) : Loc nD τ sig := (SparseCore.T d).loc main_v0
abbrev uLoc (d : Dev nD) : Loc nD τ sig := (SparseCore.T d).loc main_arg3
abbrev tLoc (d : Dev nD) : Loc nD τ sig := (SparseCore.T d).loc main_arg4
abbrev oLoc (d : Dev nD) : Loc nD τ sig := (SparseCore.T d).loc main_v1

/-- The four arrays that are only read, at a share. -/
def Shared (d : Dev nD) (q : PosShare TreeShare) : sProp 𝕄 :=
  iprop((iLoc d ↦{q} V d main_arg0) ∗ (wLoc d ↦{q} V d main_v0) ∗ (uLoc d ↦{q} V d main_arg3) ∗ (tLoc d ↦{q} V d main_arg4))

/-- A task's rows of the result. -/
def OutRows (d : Dev nD) (c : Fin 2) (s : Fin 16) (f : Buf (Elt F) (oLoc d)) : sProp 𝕄 := oLoc d ↦[outSet (pair c s)]{fullShare} f

/-- The result as all tasks leave it. -/
def summed (d : Dev nD) : Buf (Elt F) (oLoc d) :=
  fun x : S1024x128.Idx => pooled (V d main_arg3) (V d main_arg4) (V d main_arg0) (V d main_v0) (x 0) (x 1)

/-- A core's share of the read arrays, and a task's. -/
abbrev coreQ (c : Fin 2) : PosShare TreeShare := piece fullShare 1 c
abbrev taskQ (c : Fin 2) (s : Fin 16) : PosShare TreeShare := piece (coreQ c) 15 s

def P : (K (F := F)).Pay (nD := nD) (Val := Elt F) (Name := ℕ) (U := UU) where
  st := fun q d c => match q with | 0 => iprop(Shared V d (coreQ c) ∗ bigSep Finset.univ fun s => OutRows d c s (V d main_v1))
  dn := fun q d c => match q with | 0 => iprop(Shared V d (coreQ c) ∗ bigSep Finset.univ fun s => OutRows d c s (summed V d))
  go := fun q d c s => match q with | 0 => iprop(Shared V d (taskQ c s) ∗ OutRows d c s (V d main_v1))
  td := fun q d c s => match q with | 0 => iprop(Shared V d (taskQ c s) ∗ OutRows d c s (summed V d))
  x := fun _ _ => iprop(emp)

instance (d : Dev nD) (q : PosShare TreeShare) : BI.Storable (upEmb : UEmb _ 𝕄) (Shared V d q) := by unfold Shared; infer_instance
instance (d : Dev nD) (c : Fin 2) (s : Fin 16) (f : Buf (Elt F) (oLoc d)) : BI.Storable (upEmb : UEmb _ 𝕄) (OutRows d c s f) := by unfold OutRows; infer_instance

instance P_storable : (P V).IsStorable where
  st q d c := match q with
    | 0 => (inferInstance : BI.Storable (upEmb : UEmb _ 𝕄) iprop(Shared V d (coreQ c) ∗ bigSep Finset.univ fun s => OutRows d c s (V d main_v1)))
  dn q d c := match q with
    | 0 => (inferInstance : BI.Storable (upEmb : UEmb _ 𝕄) iprop(Shared V d (coreQ c) ∗ bigSep Finset.univ fun s => OutRows d c s (summed V d)))
  go q d c s := match q with | 0 => (inferInstance : BI.Storable (upEmb : UEmb _ 𝕄) iprop(Shared V d (taskQ c s) ∗ OutRows d c s (V d main_v1)))
  td q d c s := match q with | 0 => (inferInstance : BI.Storable (upEmb : UEmb _ 𝕄) iprop(Shared V d (taskQ c s) ∗ OutRows d c s (summed V d)))

/-- Every word the tasks are handed names a row of its table. -/
def InTables : Prop := ∀ d : Dev nD, (∀ x : S1024.Idx, ((V d main_arg0 : S1024.Idx → BitVec 32) x).toNat < 100000)
  ∧ ∀ x : S2048x100.Idx, ((V d main_v0 : S2048x100.Idx → BitVec 32) x).toNat < 100000

theorem shared_operands (d : Dev nD) (L : grid0.Coords) (q : PosShare TreeShare) :
    Shared V d q = Operands (F := F) d L iV wV uV tV (V d main_arg0) (V d main_v0) (V d main_arg3) (V d main_arg4) q q q q := by
  unfold Shared Operands
  simp only [Memref.view_whole, View.set_whole]

theorem task_body (hV : InTables V) (hF : (K (F := F)).Facts) (d : Dev nD) (c : Fin 2) (s : Fin 16) (O : CellTallies nD τ sig (HIx 1)) (W : Waits sig (HIx 1)) (hO : ∀ g, O g none = 0) :
    iprop(levAts (K (F := F)).L (K (F := F)).lev ∗ emp
        ∗ (Shared V d (taskQ c s) ∗ OutRows d c s (V d main_v1))
        ∗ scopedBufs (VT d (pair c s)) ∗ scopedSems0 (VT d (pair c s)) ∗ owes (VT d (pair c s)) O W)
      ⊢ wp frame (wpE (defs₀ (F := F)) 𝒱₀ (VT d (pair c s)) none) Set.univ
          (cc0__sc_body (F := F) (pair c s) iV (Memref.isWhole_whole _) wV (Memref.isWhole_whole _) uV (Memref.isWhole_whole _) tV (Memref.isWhole_whole _) oV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13 cc0_scoped0 cc0_scoped1)
          fun _ => iprop((Shared V d (taskQ c s) ∗ OutRows d c s (summed V d)) ∗ scopedBufs (VT d (pair c s)) ∗ scopedSems0 (VT d (pair c s))
            ∗ ∃ W', ⌜∀ p ∈ W', p ∈ W ∨ p.2 = none ∨ p.2 = some (0 : Fin 1)⌝ ∗ owes (VT d (pair c s)) O W') := by
  obtain ⟨R, hR⟩ := own_bufs (F := F) d (pair c s)
  obtain ⟨R', hR'⟩ := own_sems (F := F) d (pair c s)
  rw [(K (F := F)).scopedBufs_V hF d (cV (pair c s)) (jV (pair c s)), SparseCore.Cfg.scopedSems0_V (Val := Elt F) d (cV (pair c s)) (jV (pair c s)), hR, hR',
    shared_operands V d (pair c s)]
  unfold OutRows
  iintro ⟨#Hlv, -, ⟨Hin, Ho⟩, ⟨Hs, HR⟩, ⟨Hz, HR'⟩, HO⟩
  ihave Hmw := (show levAts (K (F := F)).L (K (F := F)).lev ⊢ Transfers.MayWaits (VT d (pair c s)) (default : HIx 1) O from
    (K (F := F)).mayWaits_none (thr := VT d (pair c s)) hO) $$ Hlv
  iapply (wp_wand Idealize.ShloMosaic.frame (wpE (defs₀ (F := F)) 𝒱₀ (VT d (pair c s)) none) Set.univ) $$ [Hin Ho Hs Hz Hmw HO]
  · iapply (wp_task (F := F) d (pair c s) iV (Memref.isWhole_whole _) wV (Memref.isWhole_whole _) uV (Memref.isWhole_whole _) tV (Memref.isWhole_whole _) oV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13 cc0_scoped0 cc0_scoped1
            (V d main_arg0) (V d main_v0) (V d main_arg3) (V d main_arg4) (V d main_v1) O W _ _ _ _ (fun x => (hV d).1 _) (fun x => (hV d).2 _))
    isplitl [Hin]; · iexact Hin
    isplitl [Ho]; · iexact Ho
    isplitl [Hs]; · iexact Hs
    isplitl [Hz]; · iexact Hz
    isplitl [Hmw]; · iexact Hmw
    iexact HO
  iintro %_ ⟨Hin, ⟨%f, %hf, Ho⟩, Hs, Hz, %W', %hW', HO⟩
  isplitl [Hin Ho]
  · isplitl [Hin]; · iexact Hin
    iapply (Entails.of_eq (pointsTo_congr (ℓ := oLoc d) (I := outSet (pair c s)) (q := fullShare) (f := f) (g := summed V d)
      (out_eq (pair c s) (V d main_arg3) (V d main_arg4) (V d main_arg0) (V d main_v0) f hf)))
    iexact Ho
  isplitl [Hs HR]
  · isplitl [Hs] <;> iassumption
  isplitl [Hz HR']
  · isplitl [Hz] <;> iassumption
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__sc_body (F := F) (pair c s) iV (Memref.isWhole_whole _) wV (Memref.isWhole_whole _) uV (Memref.isWhole_whole _)
            tV (Memref.isWhole_whole _) oV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13 cc0_scoped0 cc0_scoped1) ⟨⟩ c s := rfl

set_option maxRecDepth 16384 in
theorem tileObl (hV : InTables V) (hF : (K (F := F)).Facts) : (K (F := F)).TileObl (D (F := F)) 𝒱 (P V) v₀ 0 := by
  intro d c i O W hO _ _
  simp only [show (P V).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_body V hV hF d ⟨_, hci.1⟩ ⟨_, hci.2⟩ O W hO

/-! ## The shares and the rows -/

/-- The read arrays at a share are at its pieces at once. -/
theorem shared_pieces (d : Dev nD) (n : ℕ) (q : PosShare TreeShare) :
    Shared V d q = bigSep Finset.univ fun k : Fin (n + 1) => Shared V d (piece q n k) := by
  unfold Shared
  rw [bigSep_sep', bigSep_sep', bigSep_sep', ← pointsTo_pieces (ℓ := iLoc d), ← pointsTo_pieces (ℓ := wLoc d), ← pointsTo_pieces (ℓ := uLoc d),
    ← pointsTo_pieces (ℓ := tLoc d)]

theorem vecSplit : (K (F := F)).VecSplit' (P V) 0 := by
  intro d c
  show iprop(Shared V d (coreQ c) ∗ bigSep Finset.univ fun s => OutRows d c s (V d main_v1)) ⊢ |={Set.univ}=> iprop(
      (bigSep Finset.univ fun s : Fin 16 => iprop(Shared V d (taskQ c s) ∗ OutRows d c s (V d main_v1)))
      ∗ ((bigSep Finset.univ fun s : Fin 16 => iprop(Shared V d (taskQ c s) ∗ OutRows d c s (summed V d)))
          -∗ iprop(Shared V d (coreQ c) ∗ bigSep Finset.univ fun s => OutRows d c s (summed V d))))
  rw [bigSep_sep', bigSep_sep', ← shared_pieces V d 15 (coreQ c)]
  iintro H; imodintro
  isplitl [H]; · iexact H
  iintro H
  iexact H

/-- The result whole is all tasks' rows of it. -/
theorem out_rows (d : Dev nD) (f : Buf (Elt F) (oLoc d)) :
    (oLoc d ↦{fullShare} f : sProp 𝕄) = bigSep Finset.univ fun c : Fin 2 => bigSep Finset.univ fun s : Fin 16 => OutRows d c s f := by
  unfold OutRows
  rw [← bigSep_univ_prod (fun p : Fin 2 × Fin 16 => (oLoc d ↦[outSet (pair p.1 p.2)]{fullShare} f : sProp 𝕄)), ← pointsTo_biUnion]
  · rw [outSet_cover]
  · exact fun p _ p' _ h => outSet_disjoint p p' h

/-- What the call takes, from the five arrays whole. -/
theorem st_eq (d : Dev nD) : (bigSep Finset.univ fun c : Fin ((K (F := F)).nCore 0) => (P V).st 0 d c) = iprop(Shared V d fullShare ∗ oLoc d ↦{fullShare} V d main_v1) := by
  show (bigSep Finset.univ fun c : Fin 2 => iprop(Shared V d (coreQ c) ∗ bigSep Finset.univ fun s => OutRows d c s (V d main_v1))) = _
  rw [bigSep_sep', ← shared_pieces V d 1 fullShare, ← out_rows]
theorem dn_eq (d : Dev nD) : (bigSep Finset.univ fun c : Fin ((K (F := F)).nCore 0) => (P V).dn 0 d c) = iprop(Shared V d fullShare ∗ oLoc d ↦{fullShare} summed V d) := by
  show (bigSep Finset.univ fun c : Fin 2 => iprop(Shared V d (coreQ c) ∗ bigSep Finset.univ fun s => OutRows d c s (summed V d))) = _
  rw [bigSep_sep', ← shared_pieces V d 1 fullShare, ← out_rows]

end Cert.Proof.Pool

end
-- ==== Proof.Region.lean ====
/-
  The dense layers: the one-point pipeline that stages the pooled embeddings, the two weight matrices and the two bias
  rows, runs the body on them, and writes the normalised result back. `denseSeg` is the region as the program's run
  enters it, from a core's buffers at any contents `V`; `final_out` and `final_in` say what the arrays then hold.
-/
module

public import proofs.«01_k».proof.Proof.Setup

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.TcCoe
open Idealize.ShloMosaic.Pipeline (Dat BodyObligation)

/-- A load of the whole view reads the whole view. -/
theorem readAt_all {sp : Space} {s : Shape} {e : EltTy} (v : View sig .tc sp s e) {off : Fin s.rank → ℕ} (h : off = fun _ => 0)
    (inb : ∀ a, off a + s.size a ≤ s.size a) (f : v.ty.Contents (Elt F)) : v.readAt (Elt F) (Rect.unit off s.size inb).toLoadRect f = v.read (Elt F) f := by
  subst h
  funext x
  show v.read (Elt F) f ((Rect.whole s).emb x) = _
  rw [Rect.emb_whole_apply]

/-- After a store of the whole view it reads as the value stored. -/
theorem read_stored {sp : Space} {s : Shape} {e : EltTy} (v : View sig .tc sp s e) {off : Fin s.rank → ℕ} (h : off = fun _ => 0)
    (inb : ∀ a, off a + s.size a ≤ s.size a) (f : v.ty.Contents (Elt F)) (x : s.Idx → Elt F e) :
    v.read (Elt F) (v.writes (Elt F) f [⟨Rect.unit off s.size inb, x⟩]) = x := by
  subst h
  exact View.read_writes_whole v f x

theorem zeros2 : (![0, 0] : Fin 2 → ℕ) = fun _ => 0 := by funext i; fin_cases i <;> rfl

section Dense

variable (V : (c : Dev nD) → (b : Ref sig .tc) → Buf (Elt F) ((c.tc : Thread nD τ).loc b))

/-- What the fetches of the five operands stage: each operand's whole array. -/
abbrev stg0 (c : Dev nD) : (cfg1.win 0).block.Idx → Elt F (cfg1.win 0).elt := ((cfg1.win 0).blk t1_0).view.read (Elt F) (V c main_v1)
abbrev stg1 (c : Dev nD) : (cfg1.win 1).block.Idx → Elt F (cfg1.win 1).elt := ((cfg1.win 1).blk t1_0).view.read (Elt F) (V c main_arg5)
abbrev stg2 (c : Dev nD) : (cfg1.win 2).block.Idx → Elt F (cfg1.win 2).elt := ((cfg1.win 2).blk t1_0).view.read (Elt F) (V c main_v2)
abbrev stg3 (c : Dev nD) : (cfg1.win 3).block.Idx → Elt F (cfg1.win 3).elt := ((cfg1.win 3).blk t1_0).view.read (Elt F) (V c main_arg7)
abbrev stg4 (c : Dev nD) : (cfg1.win 4).block.Idx → Elt F (cfg1.win 4).elt := ((cfg1.win 4).blk t1_0).view.read (Elt F) (V c main_v3)

/-- What the body stores. -/
abbrev dense (c : Dev nD) : S1024x128.Idx → F .f32 := k1_pay1 (stg0 V c) (stg1 V c) (stg2 V c) (stg3 V c) (stg4 V c)

/-- The waits a core that is done with the one launch may have recorded. -/
abbrev low (c : Dev nD) : Set (SemLoc sig × HIx 1) := {p | (K (F := F)).lev ((c.tc : Thread nD τ), p.1) p.2 ≤ 8 * SparseCore.Cfg.Blocks.fst (Q := 1) (N := 1) 1}

/-- The staging cells' own waits are among them. -/
theorem within_low (c : Dev nD) (x : SemLoc sig × HIx 1) (h : x ∈ low (F := F) c ∪ cfg1.waitPairs (default : HIx 1)) : x ∈ low (F := F) c := by
  rcases h with h | ⟨w, s, h⟩
  · exact h
  · subst h; exact Nat.zero_le _

/-- The region's data: the arrays as they are found; each operand's staging buffer as fetched, the result's at what the
    body stores; no state of its own, nothing owed. -/
def dats (_ : Fin 1) (c : Dev nD) : Dat τ (Elt F) (HIx 1) ℕ UU ℕ cfg1 c where
  A w := V c (Pipeline.arrRef spec1 w)
  after w _ := match w with
    | ⟨0, _⟩ => stg0 V c | ⟨1, _⟩ => stg1 V c | ⟨2, _⟩ => stg2 V c | ⟨3, _⟩ => stg3 V c | ⟨4, _⟩ => stg4 V c
    | ⟨5, _⟩ => dense V c
  Φ _ := iprop(emp)
  q _ := fullShare
  owed _ := 0
  recorded _ := low (F := F) c

theorem A_eq (c : Dev nD) (w : Fin cfg1.W) : (dats V 0 c).A w = V c (Pipeline.arrRef spec1 w) := by
  dsimp only [dats]

theorem before_0 (c : Dev nD) (d : (cfg1.win 0).block.Idx → Elt F (cfg1.win 0).elt) : (dats V 0 c).before 0 t1_0 d = stg0 V c := by
  unfold Dat.before; rw [if_pos (by decide)]; rfl
theorem before_1 (c : Dev nD) (d : (cfg1.win 1).block.Idx → Elt F (cfg1.win 1).elt) : (dats V 0 c).before 1 t1_0 d = stg1 V c := by
  unfold Dat.before; rw [if_pos (by decide)]; rfl
theorem before_2 (c : Dev nD) (d : (cfg1.win 2).block.Idx → Elt F (cfg1.win 2).elt) : (dats V 0 c).before 2 t1_0 d = stg2 V c := by
  unfold Dat.before; rw [if_pos (by decide)]; rfl
theorem before_3 (c : Dev nD) (d : (cfg1.win 3).block.Idx → Elt F (cfg1.win 3).elt) : (dats V 0 c).before 3 t1_0 d = stg3 V c := by
  unfold Dat.before; rw [if_pos (by decide)]; rfl
theorem before_4 (c : Dev nD) (d : (cfg1.win 4).block.Idx → Elt F (cfg1.win 4).elt) : (dats V 0 c).before 4 t1_0 d = stg4 V c := by
  unfold Dat.before; rw [if_pos (by decide)]; rfl

/-- The body on its six staging buffers. -/
theorem wp_dense (c : Dev nD) (a0 : Memref sig .tc .vmem S1024x128 .f32) (h0 : a0.IsWhole) (a1 : Memref sig .tc .vmem S128x128 .f32) (h1 : a1.IsWhole) (a2 : Memref sig .tc .vmem S1x128 .f32) (h2 : a2.IsWhole) (a3 : Memref sig .tc .vmem S128x128 .f32) (h3 : a3.IsWhole) (a4 : Memref sig .tc .vmem S1x128 .f32) (h4 : a4.IsWhole) (a5 : Memref sig .tc .vmem S1024x128 .f32) (h5 : a5.IsWhole) (f0 f1 f2 f3 f4 f5)
    (W : Waits sig (HIx 1)) :
    iprop((a0.view.loc (c.tc : Thread nD τ) ↦[a0.view.set]{fullShare} f0) ∗ (a1.view.loc (c.tc : Thread nD τ) ↦[a1.view.set]{fullShare} f1) ∗ (a2.view.loc (c.tc : Thread nD τ) ↦[a2.view.set]{fullShare} f2) ∗ (a3.view.loc (c.tc : Thread nD τ) ↦[a3.view.set]{fullShare} f3) ∗ (a4.view.loc (c.tc : Thread nD τ) ↦[a4.view.set]{fullShare} f4) ∗ (a5.view.loc (c.tc : Thread nD τ) ↦[a5.view.set]{fullShare} f5)
        ∗ owes (c.tc : Thread nD τ) (0 : CellTallies nD τ sig (HIx 1)) W)
      ⊢ (wp frame (wpE (defs₀ (F := F)) 𝒱₀ (c.tc : Thread nD τ) none) Set.univ (cc1__tc_body (F := F) a0 h0 a1 h1 a2 h2 a3 h3 a4 h4 a5 h5) fun _ =>
        iprop((a0.view.loc (c.tc : Thread nD τ) ↦[a0.view.set]{fullShare} f0) ∗ (a1.view.loc (c.tc : Thread nD τ) ↦[a1.view.set]{fullShare} f1) ∗ (a2.view.loc (c.tc : Thread nD τ) ↦[a2.view.set]{fullShare} f2) ∗ (a3.view.loc (c.tc : Thread nD τ) ↦[a3.view.set]{fullShare} f3) ∗ (a4.view.loc (c.tc : Thread nD τ) ↦[a4.view.set]{fullShare} f4)
          ∗ (∃ f, ⌜a5.view.read (Elt F) f = k1_pay1 (F := F) (a0.view.read (Elt F) f0) (a1.view.read (Elt F) f1) (a2.view.read (Elt F) f2) (a3.view.read (Elt F) f3)
              (a4.view.read (Elt F) f4)⌝ ∗ (a5.view.loc (c.tc : Thread nD τ) ↦[a5.view.set]{fullShare} f))
          ∗ owes (c.tc : Thread nD τ) (0 : CellTallies nD τ sig (HIx 1)) W) : sProp 𝕄) := by
  rw [cc1__tc_body_eq_skeleton]
  unfold cc1__tc_body_skel
  iintro ⟨H0, H1, H2, H3, H4, H5, HO⟩
  sl_exec
  sl_step
  rw [readAt_all (s := S1024x128) _ zeros2, readAt_all (s := S128x128) _ zeros2, readAt_all (s := S1x128) _ zeros2, readAt_all (s := S128x128) _ zeros2,
    readAt_all (s := S1x128) _ zeros2]
  isplitl [H0]; · iexact H0
  isplitl [H1]; · iexact H1
  isplitl [H2]; · iexact H2
  isplitl [H3]; · iexact H3
  isplitl [H4]; · iexact H4
  isplitl [H5]
  · iexists _
    isplitr
    rotate_left
    · iexact H5
    ipureintro
    exact read_stored (s := S1024x128) _ zeros2 _ _ _
  iexact HO

theorem body_obligation (c : Dev nD) : BodyObligation (dats V 0 c) (defs₀ (F := F)) 𝒱₀ (default : HIx 1) Set.univ := fun t => by
  obtain rfl := fin_N1 t
  rw [bigSep_W1, bigSep_W1]
  simp only [owns]
  unfold Pipeline.Dat.owesAt Pipeline.owesWithin
  rw [show (dats V 0 c).Φ t1_0.succ = iprop(emp) from rfl, show (dats V 0 c).owed t1_0.castSucc = 0 from rfl, show (dats V 0 c).owed t1_0.succ = 0 from rfl]
  iintro ⟨-, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before_0] at hf0
  rw [before_1] at hf1
  rw [before_2] at hf2
  rw [before_3] at hf3
  rw [before_4] at hf4
  iapply (wp_wand Idealize.ShloMosaic.frame (wpE (defs₀ (F := F)) 𝒱₀ (c.tc : Thread nD τ) none) Set.univ) $$ [H0 H1 H2 H3 H4 H5 HO]
  · iapply (wp_dense c (stage1_0 0) (hstage1_0 0) (stage1_1 0) (hstage1_1 0) (stage1_2 0) (hstage1_2 0) (stage1_3 0) (hstage1_3 0) (stage1_4 0) (hstage1_4 0) (stage1_5 0) (hstage1_5 0) f0 f1 f2 f3 f4 f5 W)
    isplitl [H0]; · iexact H0
    isplitl [H1]; · iexact H1
    isplitl [H2]; · iexact H2
    isplitl [H3]; · iexact H3
    isplitl [H4]; · iexact H4
    isplitl [H5]; · iexact H5
    iexact HO
  iintro %_ ⟨H0, H1, H2, H3, H4, ⟨%f, %hf, H5⟩, HO⟩
  isplitr; · iempintro
  isplitl [HO]
  · iexists W; isplitr; · ipureintro; exact hW
    iexact HO
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  iexists f; isplitr; swap; (· iexact H5); ipureintro
  refine hf.trans ?_
  dsimp only [dats]
  unfold dense
  rw [← hf0, ← hf1, ← hf2, ← hf3, ← hf4]

/-! ## The region as the run enters it -/

/-- The program pins no table. -/
abbrev adm : (p : Fin 1) → (pcfgs (F := F) p).Adm := fun p => (cfgs p).toPCfg_adm

set_option backward.isDefEq.respectTransparency.types false in
/-- The region, entered from the core's buffers at `V` and a core that owes nothing: the windows' arrays go in, the
    other buffers bypass it; at the end the arrays are at their final contents. -/
def denseSeg : Pipeline.RegionSeg (pcfgs (F := F)) adm (dats V) (default : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W : Waits sig (HIx 1), ⌜∀ p ∈ W, p ∈ low (F := F) c⌝ ∗ owes (c.tc : Thread nD τ) (0 : CellTallies nD τ sig (HIx 1)) W)
  post c := iprop(((dats V 0 c).arrays ((dats V 0 c).arrAt · cfg1.N) ∗ Pipeline.unscopedRest spec1 c (V c))
    ∗ ∃ W : Waits sig (HIx 1), ⌜∀ p ∈ W, p ∈ low (F := F) c⌝ ∗ owes (c.tc : Thread nD τ) (0 : CellTallies nD τ sig (HIx 1)) W)
  X _ := iprop(emp)
  Y _ := iprop(emp)
  Z c := Pipeline.unscopedRest spec1 c (V c)
  hentry c := by
    rw [Pipeline.ownSems0_none]
    have hsplit := Pipeline.arrays_of_unscopedBufs (pcfgs (F := F)) adm (dats V) launch1.win launch1.arr_whole c
      ((dats V 0 c).share_full fun _ => rfl) (V c) (A_eq V c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW _ h)
      iexact HO
    isplitr; · iempintro
    iexact Hr
  hin c := by
    rw [show (dats V 0 c).Φ 0 = iprop(emp) from rfl]
    iintro -
    iempintro
  hout c := by
    rw [Pipeline.ownSems0_none, show (dats V 0 c).Φ (Fin.last cfg1.N) = iprop(emp) from rfl, scopedRest1_eq]
    iintro -
    isplitr; · iempintro
    isplitr <;> iempintro
  hexit c := by
    iintro ⟨Ha, HO, -, HZ⟩
    imodintro
    isplitr [HO]
    · isplitl [Ha] <;> iassumption
    · unfold Pipeline.Dat.owesAt Pipeline.owesWithin
      icases HO with ⟨%W, %hW, HO⟩; iexists W; isplitr; · ipureintro; exact fun x h => within_low c x (hW h)
      iexact HO

/-! ## What the arrays then hold -/

/-- Each staged operand is its array. -/
theorem stg0_eq (c : Dev nD) : stg0 V c = V c main_v1 :=
  Memref.read_access_unit_zero (Elt F) main_v1 (by funext a; exact Nat.zero_mul _) _ _
theorem stg1_eq (c : Dev nD) : stg1 V c = V c main_arg5 :=
  Memref.read_access_unit_zero (Elt F) main_arg5 (by funext a; exact Nat.zero_mul _) _ _
theorem stg2_eq (c : Dev nD) : stg2 V c = V c main_v2 :=
  Memref.read_access_unit_zero (Elt F) main_v2 (by funext a; exact Nat.zero_mul _) _ _
theorem stg3_eq (c : Dev nD) : stg3 V c = V c main_arg7 :=
  Memref.read_access_unit_zero (Elt F) main_arg7 (by funext a; exact Nat.zero_mul _) _ _
theorem stg4_eq (c : Dev nD) : stg4 V c = V c main_v3 :=
  Memref.read_access_unit_zero (Elt F) main_v3 (by funext a; exact Nat.zero_mul _) _ _

/-- The result's array is what the body stored. -/
theorem final_out (c : Dev nD) : (dats V 0 c).arrAt 5 cfg1.N = dense V c := by
  rw [show cfg1.N = t1_0.val + 1 from N_1, (dats V 0 c).arrAt_succ 5 t1_0, if_pos (flush1_5 t1_0)]
  exact Memref.write_access_unit_zero_univ (Elt F) main_v4 (by funext a; exact Nat.zero_mul _) _ _ _

/-- The operands' arrays are as they were found. -/
theorem final_in (c : Dev nD) (w : Fin cfg1.W) (h : (cfg1.win w).isOut = false) : (dats V 0 c).arrAt w cfg1.N = V c (Pipeline.arrRef spec1 w) :=
  ((dats V 0 c).arrAt_in w h _).trans (A_eq V c w)

end Dense

end Cert.Proof.Pool

end
-- ==== Proof.Run.lean ====
/-
  The program's whole run: @main on the TensorCore — the history words laid out in rows of a hundred, the SparseCores'
  call, the two biases laid out as rows, the dense layers' region — from the launch to the end, with what every array
  then holds.
-/
module

public import proofs.«01_k».proof.Proof.Tasks
public import proofs.«01_k».proof.Proof.Region
public import Idealize.ShloMosaic.Lib.Pipeline.RegionsLoop
public import Idealize.ShloMosaic.Lib.Pipeline.Frame
public import Idealize.ShloMosaic.Lib.StableHlo.Run
public import Idealize.ShloMosaic.Lib.SparseCore.Quiescent

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.TcCoe
open Idealize.ShloMosaic.StableHlo (held held_sub_split held_congr wp_hlo_within)
open Idealize.ShloMosaic.Pipeline (ucRefs unscopedBufs_held sub_ucRefs cellsGhost toksInit)

variable (m : (ℓ : Loc nD τ sig) → Buf (Elt F) ℓ) (ρ : Dev nD → PrngReg)

/-! ## The arrays from step to step -/

abbrev opW : HloOp τ sig (Elt F) := StableHlo.reshape main_arg1 main_v0 (rfl : (.i32 : EltTy) = .i32) shapeCasts_S1024x200_S2048x100
abbrev opB1 : HloOp τ sig (Elt F) := StableHlo.reshape main_arg6 main_v2 (rfl : (.f32 : EltTy) = .f32) shapeCasts_S128_S1x128
abbrev opB2 : HloOp τ sig (Elt F) := StableHlo.reshape main_arg8 main_v3 (rfl : (.f32 : EltTy) = .f32) shapeCasts_S128_S1x128

/-- At the launch. -/
def V0 (d : Dev nD) : Valuation τ sig (Elt F) := fun b => m (d, b)
/-- The history's words in rows of a hundred. -/
def V1 (d : Dev nD) : Valuation τ sig (Elt F) := (opW (F := F)).result (V0 m d)
/-- After the SparseCores' call. -/
def V2 (d : Dev nD) : Valuation τ sig (Elt F) := Function.update (V1 m d) (main_v1 : DevRef τ sig) (summed (V1 m) d)
/-- The biases as rows. -/
def V3 (d : Dev nD) : Valuation τ sig (Elt F) := (opB1 (F := F)).result (V2 m d)
def V4 (d : Dev nD) : Valuation τ sig (Elt F) := (opB2 (F := F)).result (V3 m d)
/-- The same by TensorCore reference. -/
abbrev Vr (c : Dev nD) (b : Ref sig .tc) : Buf (Elt F) ((c.tc : Thread nD τ).loc b) := V4 m c b
/-- At the end. -/
def V5 (d : Dev nD) : Valuation τ sig (Elt F) := Function.update (V4 m d) (main_v4 : DevRef τ sig) (dense (Vr m) d)

/-- The call's arrays. -/
abbrev S5 : Finset (DevRef τ sig) := {(main_arg0 : DevRef τ sig), (main_v0 : DevRef τ sig), (main_arg3 : DevRef τ sig), (main_arg4 : DevRef τ sig), (main_v1 : DevRef τ sig)}

theorem S5_sub : S5 ⊆ ucRefs τ sig := by decide

theorem held_S5 (d : Dev nD) (W : Valuation τ sig (Elt F)) :
    (held (SparseCore.T d) S5 W : sProp 𝕄) = iprop(Shared (fun _ => W) d fullShare ∗ oLoc d ↦{fullShare} W main_v1) := by
  unfold held S5 Shared
  rw [SparseCore.bigSep_insert' (by decide), SparseCore.bigSep_insert' (by decide), SparseCore.bigSep_insert' (by decide), SparseCore.bigSep_insert' (by decide), bigSep_singleton]
  have h (A B C : sProp 𝕄) : iprop((A ∗ B) ∗ C) = iprop(A ∗ B ∗ C) := equiv_iff.mp ⟨BI.sep_assoc, BI.sep_assoc'⟩
  rw [h, h, h]

theorem V2_of_ne (d : Dev nD) {b : DevRef τ sig} (h : b ≠ (main_v1 : DevRef τ sig)) : V2 m d b = V1 m d b := Function.update_of_ne h _ _
theorem V2_out (d : Dev nD) : V2 m d (main_v1 : DevRef τ sig) = summed (V1 m) d := Function.update_self _ _ _

theorem V5_of_ne (d : Dev nD) {b : DevRef τ sig} (h : b ≠ (main_v4 : DevRef τ sig)) : V5 m d b = V4 m d b := Function.update_of_ne h _ _
theorem V5_out (d : Dev nD) : V5 m d (main_v4 : DevRef τ sig) = dense (Vr m) d := Function.update_self _ _ _

/-- What the call takes and what it gives back, inside the arrays held whole. -/
theorem held_before (d : Dev nD) : (held (SparseCore.T d) (ucRefs τ sig) (V1 m d) : sProp 𝕄)
    = iprop((Shared (V1 m) d fullShare ∗ oLoc d ↦{fullShare} V1 m d main_v1) ∗ held (SparseCore.T d) (ucRefs τ sig \ S5) (V1 m d)) := by
  rw [held_sub_split _ S5_sub, held_S5]; rfl
theorem held_after (d : Dev nD) : (held (SparseCore.T d) (ucRefs τ sig) (V2 m d) : sProp 𝕄)
    = iprop((Shared (V1 m) d fullShare ∗ oLoc d ↦{fullShare} summed (V1 m) d) ∗ held (SparseCore.T d) (ucRefs τ sig \ S5) (V1 m d)) := by
  rw [held_sub_split _ S5_sub, held_S5, V2_out,
    held_congr (S := ucRefs τ sig \ S5) _ (V := V2 m d) (V' := V1 m d) fun b hb => V2_of_ne m d fun h => (Finset.mem_sdiff.mp hb).2 (h ▸ by decide)]
  unfold Shared
  beta_reduce
  rw [V2_of_ne m d (b := main_arg0) (by decide), V2_of_ne m d (b := main_v0) (by decide), V2_of_ne m d (b := main_arg3) (by decide), V2_of_ne m d (b := main_arg4) (by decide)]

/-! ## The ghost state at the launch -/

abbrev uP : UP := initOf (Pipeline.cells cfgs cellOf_inj) (Pipeline.launchToks cfgs cellOf_inj)
theorem bigSep_emp_all {I : Type} (s : Finset I) : (bigSep s fun _ => iprop(emp)) = (iprop(emp) : sProp 𝕄) := bigSep_emp_const s

theorem bigSep_one (Ψ : Fin 1 → Dev nD → sProp 𝕄) : (bigSep Finset.univ fun c => bigSep Finset.univ fun p => Ψ p c) = bigSep Finset.univ fun c => Ψ 0 c :=
  bigSep_congr fun _ _ => bigSep_univ_of_subsingleton (0 : Fin 1)

theorem own_EP (x : UP) : (BI.own (((Emb.inl : Emb UP (UP × Counters)).trans embR) x) : sProp 𝕄) = BI.own (EP (F := F) x) := rfl

def u₀ : UU := (initOf (K (F := F)).hsCells (K (F := F)).hsToks, (uP, 1))
/-- The dense layers' staging cells on one core. -/
abbrev G (d : Dev nD) : sProp 𝕄 := iprop(cellsGhost cfgs (EP (F := F)) 0 d ∗ toksInit cfgs (EP (F := F)) 0 d)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P (V1 m)).x q thr) := by
  unfold u₀
  iintro Hu
  ihave H := (ownU_pair (initOf (K (F := F)).hsCells (K (F := F)).hsToks) ((uP, 1) : UP × Counters)) $$ Hu
  icases H with ⟨HH, HP⟩
  ihave HP' := (own_pair_emb (embR : Emb (UP × Counters) (MT nD τ sig (HIx 1) (Elt F) ℕ UU ℕ)) uP (1 : Counters)) $$ HP
  icases HP' with ⟨HP, -⟩
  ihave HP := (Entails.of_eq (own_EP (F := F) uP)) $$ HP
  imod (Pipeline.fund_ghost cfgs (EP (F := F)) cellOf_inj) $$ HP with ⟨HC, HT⟩
  imodintro
  isplitl [HH]; · iexact HH
  isplitl [HC HT]
  · rw [bigSep_sep']
    isplitl [HC]
    · ihave HC := (Entails.of_eq (bigSep_one fun p c => cellsGhost cfgs (EP (F := F)) p c)) $$ HC
      iexact HC
    · ihave HT := (Entails.of_eq (bigSep_one fun p c => toksInit cfgs (EP (F := F)) p c)) $$ HT
      iexact HT
  rw [show (bigSep Finset.univ fun thr : Thread nD τ => bigSep Finset.univ fun q : Fin 1 => (P (F := F) (V1 m)).x q thr) = bigSep Finset.univ fun _ => iprop(emp) from
    bigSep_congr fun _ _ => bigSep_univ_of_subsingleton (0 : Fin 1), bigSep_emp_all]
  iempintro

/-! ## @main on the TensorCore -/

/-- The region's call, in the dense layers' own terms. -/
def denseCall : Prog (TpuEff nD τ sig (Elt F) (ΛP (F := F)) .tc) PUnit := .op (.customCall (Pipeline.entry 0) ()) fun _ => .ret ⟨⟩

theorem denseCall_eq : (Prog.lift (.customCall (SparseCore.inner (Pipeline.entry 0)) ()) : Prog (TpuEff nD τ sig (Elt F) (SparseCore.Sig (ΛP (F := F)) 1) .tc) PUnit)
    = SparseCore.liftProg (denseCall (F := F)) := rfl

set_option backward.isDefEq.respectTransparency.types false in
/-- The dense layers' region inside @main: the arrays in at `V4`, out at `V5`. -/
theorem wp_region [∀ e, Nonempty (Elt F e)] (d : Dev nD) (Φ : PUnit → sProp 𝕄) :
    iprop(boundary (SparseCore.T d) ∗ held (SparseCore.T d) (ucRefs τ sig) (V4 m d) ∗ (∃ W : Waits sig (HIx 1), ⌜∀ p ∈ W, p ∈ low (F := F) d⌝ ∗ owes (SparseCore.T d) (0 : CellTallies nD τ sig (HIx 1)) W)
        ∗ levAts (K (F := F)).L (K (F := F)).lev ∗ G (F := F) d
        ∗ (iprop(boundary (SparseCore.T d) ∗ held (SparseCore.T d) (ucRefs τ sig) (V5 m d) ∗ ∃ W : Waits sig (HIx 1), ⌜∀ p ∈ W, p ∈ low (F := F) d⌝ ∗ owes (SparseCore.T d) (0 : CellTallies nD τ sig (HIx 1)) W) -∗ Φ ⟨⟩))
      ⊢ wp frame (wpE ((K (F := F)).defs (D (F := F))) 𝒱 (SparseCore.T d) none) Set.univ (SparseCore.liftProg (denseCall (F := F))) Φ := by
  refine BI.Entails.trans ?_ ((K (F := F)).wp_liftProg (D (F := F)) 𝒱 (SparseCore.T d) Set.univ none (denseCall (F := F)) Φ)
  unfold denseCall
  have hR := Pipeline.RegionSeg.wp (pcfgs (F := F)) adm (dats (Vr m)) (default : HIx 1) cellOf_inj (EP (F := F)) defs₀ 𝒱₀ (K (F := F)).L (K (F := F)).lev
    (denseSeg (Vr m)) d none (fun u h => absurd h (Option.not_mem_none u)) (fun _ => .ret ⟨⟩) Φ
  have hin : (held (SparseCore.T d) (ucRefs τ sig) (V4 m d) : sProp 𝕄) = unscopedBufs d (Vr m d) := (unscopedBufs_held d (V4 m d)).symm
  have hout : iprop((dats (Vr m) 0 d).arrays ((dats (Vr m) 0 d).arrAt · cfg1.N) ∗ Pipeline.unscopedRest spec1 d (Vr m d)) ⊢ (held (SparseCore.T d) (ucRefs τ sig) (V5 m d) : sProp 𝕄) := by
    refine BI.Entails.trans ?_ (Entails.of_eq (unscopedBufs_held d (V5 m d)))
    refine Pipeline.unscopedBufs_of_arrays (pcfgs (F := F)) adm launch1.win launch1.arr_whole d (dats (Vr m)) ((dats (Vr m) 0 d).share_full fun _ => rfl) (Vr m d) _ _ ?_ ?_
    · intro w
      match w with
      | 0 => exact (final_in (Vr m) d 0 rfl).trans (V5_of_ne m d (b := main_v1) (by decide)).symm
      | 1 => exact (final_in (Vr m) d 1 rfl).trans (V5_of_ne m d (b := main_arg5) (by decide)).symm
      | 2 => exact (final_in (Vr m) d 2 rfl).trans (V5_of_ne m d (b := main_v2) (by decide)).symm
      | 3 => exact (final_in (Vr m) d 3 rfl).trans (V5_of_ne m d (b := main_arg7) (by decide)).symm
      | 4 => exact (final_in (Vr m) d 4 rfl).trans (V5_of_ne m d (b := main_v3) (by decide)).symm
      | 5 => exact (final_out (Vr m) d).trans (V5_out m d).symm
    · intro b hb
      refine V5_of_ne m d fun h => hb ?_
      rw [show b = main_v4 from Proc.devRef_injective .tc h]
      exact Finset.mem_image.mpr ⟨(5 : Fin 6), Finset.mem_univ _, rfl⟩
  have hsplit : iprop(boundary (d.tc : Thread nD τ) ∗ unscopedBufs d (Vr m d) ∗ (∃ W : Waits sig (HIx 1), ⌜∀ p ∈ W, p ∈ low (F := F) d⌝ ∗ owes (d.tc : Thread nD τ) (0 : CellTallies nD τ sig (HIx 1)) W)
        ∗ levAts (K (F := F)).L (K (F := F)).lev ∗ G (F := F) d
        ∗ (iprop(boundary (d.tc : Thread nD τ) ∗ held (SparseCore.T d) (ucRefs τ sig) (V5 m d) ∗ ∃ W : Waits sig (HIx 1), ⌜∀ p ∈ W, p ∈ low (F := F) d⌝ ∗ owes (d.tc : Thread nD τ) (0 : CellTallies nD τ sig (HIx 1)) W) -∗ Φ ⟨⟩))
      ⊢ (iprop((iprop(boundary (d.tc : Thread nD τ) ∗ (((dats (Vr m) 0 d).arrays ((dats (Vr m) 0 d).arrAt · cfg1.N) ∗ Pipeline.unscopedRest spec1 d (Vr m d))
            ∗ ∃ W : Waits sig (HIx 1), ⌜∀ p ∈ W, p ∈ low (F := F) d⌝ ∗ owes (d.tc : Thread nD τ) (0 : CellTallies nD τ sig (HIx 1)) W))
          -∗ wp frame (wpE (D (F := F)) 𝒱 (d.tc : Thread nD τ) none) Set.univ (.ret ⟨⟩) Φ)
        ∗ boundary (d.tc : Thread nD τ) ∗ (unscopedBufs d (Vr m d) ∗ ∃ W : Waits sig (HIx 1), ⌜∀ p ∈ W, p ∈ low (F := F) d⌝ ∗ owes (d.tc : Thread nD τ) (0 : CellTallies nD τ sig (HIx 1)) W)
        ∗ levAts (K (F := F)).L (K (F := F)).lev ∗ Pipeline.cellsGhost cfgs (EP (F := F)) 0 d ∗ Pipeline.toksInit cfgs (EP (F := F)) 0 d) : sProp 𝕄) := by
    iintro ⟨Hb, Hh, HO, HL, ⟨HC, HT⟩, Hk⟩
    isplitl [Hk]
    · iintro ⟨Hb, ⟨Ha, HO⟩⟩
      rw [wp_ret]; imodintro
      iapply Hk
      isplitl [Hb]; · iexact Hb
      isplitl [Ha]; · iapply hout; iexact Ha
      iexact HO
    isplitl [Hb]; · iexact Hb
    isplitl [Hh HO]
    · isplitl [Hh]; · iexact Hh
      iexact HO
    isplitl [HL]; · iexact HL
    isplitl [HC]; · iexact HC
    iexact HT
  rw [hin]
  exact hsplit.trans hR

theorem bufsW : (opW (F := F)).bufs ⊆ ucRefs τ sig := show ({(main_arg1 : DevRef τ sig), (main_v0 : DevRef τ sig)} : Finset (DevRef τ sig)) ⊆ ucRefs τ sig by decide
theorem bufsB1 : (opB1 (F := F)).bufs ⊆ ucRefs τ sig := show ({(main_arg6 : DevRef τ sig), (main_v2 : DevRef τ sig)} : Finset (DevRef τ sig)) ⊆ ucRefs τ sig by decide
theorem bufsB2 : (opB2 (F := F)).bufs ⊆ ucRefs τ sig := show ({(main_arg8 : DevRef τ sig), (main_v3 : DevRef τ sig)} : Finset (DevRef τ sig)) ⊆ ucRefs τ sig by decide

/-- What @main leaves: every array, at the end's contents. -/
abbrev FIN (d : Dev nD) : sProp 𝕄 := held (SparseCore.T d) (ucRefs τ sig) (V5 m d)

/-- After the one call nothing is owed. -/
theorem owes_done (d : Dev nD) (n : ℕ) (hn : 1 ≤ n) (W : Waits sig (HIx 1)) : (owes (SparseCore.T d) ((K (F := F)).Otc d n) W : sProp 𝕄) = owes (SparseCore.T d) 0 W := by
  rw [SparseCore.Cfg.Otc_end _ d hn]

/-- @main: the history's words, the call, the biases, the region. -/
theorem hmain [∀ e, Nonempty (Elt F e)] (κ : GSem nD τ sig → ℕ) (d : Dev nD) :
    iprop((K (F := F)).ctx EH (P (V1 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from unscopedBufs_held d (V0 m d)]
  simp only [main, wp_bind, wp_pure]
  rw [denseCall_eq]
  iintro ⟨#Hctx, Hst, ⟨Hb, Hheld, Hts, -⟩, HG⟩
  iapply (wp_hlo_within 𝒱 (SparseCore.T d) none Set.univ (op := opW) (S := ucRefs τ sig) bufsW (V := V0 m d)) $$ [Hb Hheld]
  · isplitl [Hb]; · iexact Hb
    iexact Hheld
  iintro ⟨Hb, Hheld⟩
  rw [wp_ret]; imodintro
  ihave Hh := (Entails.of_eq (show held (SparseCore.T d) (ucRefs τ sig) ((opW (F := F)).result (V0 m d)) = _ from held_before m d)) $$ Hheld
  icases Hh with ⟨Hcall, Hrest⟩
  iapply ((K (F := F)).wp_run (D (F := F)) 𝒱 (EH := EH) (P := P (V1 m)) κ d 0) $$ [Hst Hb Hcall Hrest Hts HG]
  isplitr; · iexact Hctx
  isplitl [Hst]; · iexact Hst
  isplitl [Hcall]
  · iapply (Entails.of_eq (st_eq (V1 m) d).symm); iexact Hcall
  iintro ⟨Hst, Hdn⟩
  ihave Hdn' := (Entails.of_eq (dn_eq (V1 m) d)) $$ Hdn
  ihave Hheld := (Entails.of_eq (held_after m d).symm) $$ [Hdn' Hrest]
  · isplitl [Hdn'] <;> iassumption
  iapply (wp_hlo_within 𝒱 (SparseCore.T d) none Set.univ (op := opB1) (S := ucRefs τ sig) bufsB1 (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := opB2) (S := ucRefs τ sig) bufsB2 (V := V3 m d)) $$ [Hb Hheld]
  · isplitl [Hb]; · iexact Hb
    iexact Hheld
  iintro ⟨Hb, Hheld⟩
  rw [wp_ret]; imodintro
  unfold SparseCore.Cfg.tcSt
  icases Hst with ⟨⟨%W, %hW, HO⟩, Hst⟩
  ihave HL := ((K (F := F)).ctx_levAts κ) $$ Hctx
  iapply (wp_region m d _) $$ [Hb Hheld HO HG Hst Hts HL]
  isplitl [Hb]; · iexact Hb
  isplitl [Hheld]; · iexact Hheld
  isplitl [HO]
  · iexists W
    isplitr; · ipureintro; exact fun p hp => hW p hp
    iapply (Entails.of_eq (owes_done d 1 (Nat.le_refl 1) W)); iexact HO
  isplitl [HL]; · iexact HL
  isplitl [HG]; · iexact HG
  iintro ⟨Hb, Hheld, %W', %hW', HO⟩
  imodintro
  isplitl [Hst HO]
  · isplitl [HO]
    · iexists W'
      isplitr; · ipureintro; exact fun p hp => hW' p hp
      iapply (Entails.of_eq (owes_done d 1 (Nat.le_refl 1) W').symm); iexact HO
    iexact Hst
  isplitl [Hheld]; · iexact Hheld
  isplitl [Hb] <;> iassumption

/-! ## The end -/

/-- Arrays held and a machine state agree on what the arrays hold. -/
theorem held_agree (d : Dev nD) (A : Finset (DevRef τ sig)) (W : Valuation τ sig (Elt F)) (s' : Phys nD τ sig (Elt F)) :
    iprop(held (SparseCore.T d) A W ∗ SI s') ⊢ (⌜∀ b ∈ A, s'.mem.mem (d, b) = W b⌝ : sProp 𝕄) := by
  by_cases h : ∀ b ∈ A, s'.mem.mem (d, b) = W b
  · iintro -; ipureintro; exact h
  · push Not at h
    obtain ⟨b, hb, hne⟩ := h
    rw [held_sub_split (SparseCore.T d) (Finset.singleton_subset_iff.mpr hb)]
    unfold held
    rw [bigSep_singleton]
    iintro ⟨⟨H, -⟩, HSI⟩
    ihave H := (SI_pointsTo_agree (st := s') (ℓ := (d, b)) (I := Finset.univ) (q := fullShare) (f := W b)) $$ [HSI H]
    · isplitl [HSI] <;> iassumption
    icases H with %hx
    exact absurd (funext fun i => hx i (Finset.mem_univ i)) hne

def fq (d : Dev nD) (s' : Phys nD τ sig (Elt F)) : Prop := ∀ b ∈ ucRefs τ sig, s'.mem.mem (d, b) = V5 m d b

/-- The program runs to the end; every array of @main is then at `V5`, every semaphore at zero. -/
theorem run_main [∀ e, Nonempty (Elt F e)] (hV : InTables (V1 m)) :
    θ_run (Cert.KernelIdeal.defs (F := F)) (Cert.KernelIdeal.threads (F := F)) ⟨m, fun _ => 0, ρ⟩
      (fun r => (∀ d : Dev nD, ∀ b ∈ ucRefs τ sig, r.2.mem (d, b) = V5 m d b) ∧ r.2.sem = fun _ => 0) :=
  SparseCore.Cfg.θ_run_sc_quiescent (K := K (F := F)) (D := D (F := F)) (𝒱 := 𝒱) (EH := EH) (P := P (V1 m)) (A := ∅) facts v₀
    (fun q hq => match q with | 0 => nomatch hq)
    (fun q _ => match q with | 0 => tileObl (V1 m) hV facts)
    (fun q _ => match q with | 0 => SparseCore.Cfg.VecSplit.of_plain (vecSplit (V1 m)))
    m ρ main (G (F := F)) (FIN m) (u₀ (F := F)) (sep_elim_left.trans (hu₀ m)) (hmain m ρ) (fq m) (fun d s' => held_agree d _ _ s')
    (fun r => (∀ d : Dev nD, ∀ b ∈ ucRefs τ sig, r.2.mem (d, b) = V5 m d b) ∧ r.2.sem = fun _ => 0) (fun _ h hz => ⟨h, hz⟩)

end Cert.Proof.Pool

end
-- ==== Proof.Inputs.lean ====
/-
  What the preconditions say of the arguments: every word names a row of its table, and in the second of them every
  weight of the mask is one.
-/
module

public import proofs.«01_k».proof.Proof.Setup

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## Folding a conjunction -/

theorem andi_one : ∀ a b : BitVec 1, IntOp.andi a b = 1#1 ↔ a = 1#1 ∧ b = 1#1 := by decide

theorem foldl_andi_one {ι : Type} (x : ι → BitVec 1) (l : List ι) (b : BitVec 1) :
    l.foldl (fun r n => IntOp.andi r (x n)) b = 1#1 ↔ b = 1#1 ∧ ∀ n ∈ l, x n = 1#1 := by
  induction l generalizing b with
  | nil => simp
  | cons n l ih => rw [List.foldl_cons, ih, andi_one]; simp [and_assoc]

/-- A conjunction over axes is one at an index exactly if every element over it is, started from one. -/
theorem reduce_andi_one {s t u : Shape} {axes : List (Fin s.rank)} (x : s.Idx → BitVec 1) (init : u.Idx → BitVec 1)
    (h : s.ReducesTo axes t) (hu : 0 < u.numel) (hi : ∀ k, init k = 1#1) (j : t.Idx) :
    Host.reduce IntOp.andi x init h hu j = 1#1 ↔ ∀ i, h.drop i = j → x i = 1#1 := by
  unfold Host.reduce
  rw [foldl_andi_one (fun n => x (s.rowMajor.symm n))]
  constructor
  · rintro ⟨-, H⟩ i hj
    have := H (s.rowMajor i) (List.mem_filter.mpr ⟨List.mem_finRange _, by simpa using hj⟩)
    simpa using this
  · exact fun H => ⟨hi _, fun n hn => H _ (by simpa using (List.mem_filter.mp hn).2)⟩

/-! ## The words -/

theorem ofBool_one : ∀ b : Bool, BitVec.ofBool b = 1#1 → b = true := by decide

theorem word_lt (w : BitVec 32) (h : IntOp.andi (IntOp.cmpi .sge w 0#32) (IntOp.cmpi .slt w 100000#32) = 1#1) : w.toNat < 100000 := by
  obtain ⟨h1, h2⟩ := (andi_one _ _).mp h
  have e1 : (0#32 : BitVec 32).sle w = true := ofBool_one _ h1
  have e2 : w.slt 100000#32 = true := ofBool_one _ h2
  rw [BitVec.sle_eq_decide, decide_eq_true_eq, show (0#32 : BitVec 32).toInt = 0 by decide] at e1
  rw [BitVec.slt_eq_decide, decide_eq_true_eq, show (100000#32 : BitVec 32).toInt = 100000 by decide] at e2
  have := BitVec.toInt_eq_toNat_cond w
  have := w.isLt
  split at * <;> omega

/-- Words that all compare as in range name rows. -/
theorem words_lt {s t u : Shape} {axes : List (Fin s.rank)} (w : IVec s 32) (x : s.Idx → BitVec 1) (init : u.Idx → BitVec 1) (h : s.ReducesTo axes t)
    (hu : 0 < u.numel) (hi : ∀ k, init k = 1#1) (j : t.Idx) (hj : ∀ i, h.drop i = j) (hx : ∀ i, x i = IntOp.andi (IntOp.cmpi .sge (w i) 0#32) (IntOp.cmpi .slt (w i) 100000#32))
    (e : Host.reduce IntOp.andi x init h hu j = 1#1) (i : s.Idx) : (w i).toNat < 100000 :=
  word_lt _ ((hx i).symm.trans ((reduce_andi_one x init h hu hi j).mp e i (hj i)))

/-! ## The preconditions -/

section
variable {F : FTy → Type} [FloatOps F] (a0 : IVec Cert.Pre_inputs_ok.S1024 32) (a1 : IVec Cert.Pre_inputs_ok.S1024x200 32) (a2 : FVec F Cert.Pre_inputs_ok.S1024x200 .f32)
  (a3 a4 : FVec F Cert.Pre_inputs_ok.S100000x128 .f32) (a5 a7 : FVec F Cert.Pre_inputs_ok.S128x128 .f32) (a6 a8 : FVec F Cert.Pre_inputs_ok.S128 .f32)

/-- Where the words are in range, every word names a row. -/
theorem pre_rows [Cert.Pre_rows_ok.Facts] (h : Cert.Pre_rows_ok.fn a0 a1 a2 a3 a4 a5 a6 a7 a8 = fun _ => 1#1) :
    (∀ x, (a0 x).toNat < 100000) ∧ ∀ x, (a1 x).toNat < 100000 := by
  obtain ⟨e0, e1⟩ := (andi_one _ _).mp (congrFun h (fun a => a.elim0))
  exact ⟨words_lt a0 _ _ _ _ (fun _ => rfl) _ (fun _ => funext fun a => a.elim0) (fun _ => rfl) e0,
    words_lt a1 _ _ _ _ (fun _ => rfl) _ (fun _ => funext fun a => a.elim0) (fun _ => rfl) e1⟩

/-- Where moreover the mask is one throughout, every weight compares equal to one. -/
theorem pre_words [Cert.Pre_inputs_ok.Facts] (h : Cert.Pre_inputs_ok.fn a0 a1 a2 a3 a4 a5 a6 a7 a8 = fun _ => 1#1) :
    (∀ x, (a0 x).toNat < 100000) ∧ (∀ x, (a1 x).toNat < 100000) ∧ ∀ x, FloatOps.cmpf .oeq (a2 x) (Scalar.ofBits .f32 0x3F800000#32) = 1#1 := by
  obtain ⟨e01, e2⟩ := (andi_one _ _).mp (congrFun h (fun a => a.elim0))
  obtain ⟨e0, e1⟩ := (andi_one _ _).mp e01
  exact ⟨words_lt a0 _ _ _ _ (fun _ => rfl) _ (fun _ => funext fun a => a.elim0) (fun _ => rfl) e0,
    words_lt a1 _ _ _ _ (fun _ => rfl) _ (fun _ => funext fun a => a.elim0) (fun _ => rfl) e1,
    fun x => (reduce_andi_one _ _ _ _ (fun _ => rfl) _).mp e2 x (funext fun a => a.elim0)⟩

end

end Cert.Proof.Pool

end
-- ==== Proof.Frames.lean ====
/-
  What the run leaves in the arguments, and the frame claims: under the precondition every run of the kernel ends with
  its arguments unchanged and every counter at zero. The same for the reference.
-/
module

public import proofs.«01_k».proof.Proof.Run
public import proofs.«01_k».proof.Proof.Inputs
public import proofs.«01_k».proof.Proof.Gen.Kernel
public import proofs.«01_k».proof.Proof.Gen.ReferenceIdeal.Run

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.TcCoe
open Idealize.ShloMosaic.Pipeline (ucRefs)

variable (m : (ℓ : Loc nD τ sig) → Buf (Elt F) ℓ) (ρ : Dev nD → PrngReg)

/-! ## The arrays no step writes -/

theorem V1_of_ne (d : Dev nD) {b : DevRef τ sig} (h : b ∉ ({(main_v0 : DevRef τ sig)} : Finset (DevRef τ sig))) : V1 m d b = m (d, b) :=
  HloOp.result_of_not_mem (opW (F := F)) _ h
theorem V3_of_ne (d : Dev nD) {b : DevRef τ sig} (h : b ∉ ({(main_v2 : DevRef τ sig)} : Finset (DevRef τ sig))) : V3 m d b = V2 m d b :=
  HloOp.result_of_not_mem (opB1 (F := F)) _ h
theorem V4_of_ne (d : Dev nD) {b : DevRef τ sig} (h : b ∉ ({(main_v3 : DevRef τ sig)} : Finset (DevRef τ sig))) : V4 m d b = V3 m d b :=
  HloOp.result_of_not_mem (opB2 (F := F)) _ h

/-- What the steps write. -/
abbrev written : Finset (DevRef τ sig) := {(main_v0 : DevRef τ sig), (main_v1 : DevRef τ sig), (main_v2 : DevRef τ sig), (main_v3 : DevRef τ sig), (main_v4 : DevRef τ sig)}

theorem V4_unwritten (d : Dev nD) {b : DevRef τ sig} (h : b ∉ written) : V4 m d b = m (d, b) := by
  simp only [written, Finset.mem_insert, Finset.mem_singleton, not_or] at h
  obtain ⟨h0, h1, h2, h3, h4⟩ := h
  exact (V4_of_ne m d (by simpa using h3)).trans ((V3_of_ne m d (by simpa using h2)).trans ((V2_of_ne m d h1).trans (V1_of_ne m d (by simpa using h0))))

theorem V5_unwritten (d : Dev nD) {b : DevRef τ sig} (h : b ∉ written) : V5 m d b = m (d, b) :=
  (V5_of_ne m d fun e => h (by rw [e]; decide)).trans (V4_unwritten m d h)

/-- The history's words in rows of a hundred are the history's words. -/
theorem V1_words (d : Dev nD) : (V1 m d (main_v0 : DevRef τ sig) : S2048x100.Idx → BitVec 32)
    = shapeCast S2048x100 (m (d, (main_arg1 : DevRef τ sig)) : S1024x200.Idx → BitVec 32) shapeCasts_S1024x200_S2048x100 :=
  StableHlo.reshape_result (F := V0 m d) _ _ _ _ _ _

theorem inTables (h0 : ∀ (d : Dev nD) (x : S1024.Idx), ((m (d, (main_arg0 : DevRef τ sig)) : S1024.Idx → BitVec 32) x).toNat < 100000)
    (h1 : ∀ (d : Dev nD) (x : S1024x200.Idx), ((m (d, (main_arg1 : DevRef τ sig)) : S1024x200.Idx → BitVec 32) x).toNat < 100000) : InTables (V1 m) := by
  intro d
  refine ⟨fun x => ?_, fun x => ?_⟩
  · rw [V1_of_ne m d (b := main_arg0) (by decide)]; exact h0 d x
  · rw [V1_words]; exact h1 d _

/-- The arguments at the end of a run. -/
def Unchanged (mem : (ℓ : Loc nD τ sig) → Buf (Elt F) ℓ) : Prop := ∀ c : Dev nD,
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)

theorem unchanged_of_run (mem : (ℓ : Loc nD τ sig) → Buf (Elt F) ℓ) (h : ∀ d : Dev nD, ∀ b ∈ ucRefs τ sig, mem (d, b) = V5 m d b) : Unchanged m mem := by
  have k (d : Dev nD) (b : DevRef τ sig) (hb : b ∈ ucRefs τ sig) (hw : b ∉ written) : mem (d, b) = m (d, b) :=
    (h d b hb).trans (V5_unwritten m d hw)
  intro c
  exact ⟨k c main_arg0 (by decide) (by decide), k c main_arg1 (by decide) (by decide), k c main_arg2 (by decide) (by decide),
    k c main_arg3 (by decide) (by decide), k c main_arg4 (by decide) (by decide), k c main_arg5 (by decide) (by decide),
    k c main_arg6 (by decide) (by decide), k c main_arg7 (by decide) (by decide), k c main_arg8 (by decide) (by decide)⟩

/-- The run under the words' bounds: the result's array holds the dense layers' value, the arguments what they held. -/
theorem run_args [∀ e, Nonempty (Elt F e)]
    (h0 : ∀ (d : Dev nD) (x : S1024.Idx), ((m (d, (main_arg0 : DevRef τ sig)) : S1024.Idx → BitVec 32) x).toNat < 100000)
    (h1 : ∀ (d : Dev nD) (x : S1024x200.Idx), ((m (d, (main_arg1 : DevRef τ sig)) : S1024x200.Idx → BitVec 32) x).toNat < 100000) :
    θ_run (Cert.KernelIdeal.defs (F := F)) (Cert.KernelIdeal.threads (F := F)) ⟨m, fun _ => 0, ρ⟩
      (fun r => (∀ c : Dev nD, r.2.mem ((c.tc : Thread nD τ).loc main_v4) = dense (Vr m) c) ∧ Unchanged m r.2.mem ∧ r.2.sem = fun _ => 0) :=
  (θ_run (Cert.KernelIdeal.defs (F := F)) _ _).mono (fun r h => ⟨fun c => (h.1 c main_v4 (by decide)).trans (V5_out m c), unchanged_of_run m _ h.1, h.2⟩)
    (run_main m ρ (inTables m h0 h1))

/-! ## The claims -/

/-- Over the extended reals, words in range suffice for the frame. -/
theorem quiescent_ideal (m : (ℓ : Loc nD τ sig) → Buf (Elt Ideal) ℓ) (ρ : Dev nD → PrngReg)
    (h0 : ∀ (d : Dev nD) (x : S1024.Idx), ((m (d, (main_arg0 : DevRef τ sig)) : S1024.Idx → BitVec 32) x).toNat < 100000)
    (h1 : ∀ (d : Dev nD) (x : S1024x200.Idx), ((m (d, (main_arg1 : DevRef τ sig)) : S1024x200.Idx → BitVec 32) x).toNat < 100000) :
    θ_run (Cert.KernelIdeal.defs (F := Ideal)) (Cert.KernelIdeal.threads (F := Ideal)) ⟨m, fun _ => 0, ρ⟩
      (fun r => Unchanged m r.2.mem ∧ r.2.sem = fun _ => 0) := by
  haveI : ∀ e, Nonempty (Elt Ideal e) := fun e => by cases e <;> exact ⟨default⟩
  exact (θ_run (Cert.KernelIdeal.defs (F := Ideal)) _ _).mono (fun r h => ⟨h.2.1, h.2.2⟩) (run_args m ρ h0 h1)

/-- The kernel's frame over the extended reals. -/
theorem frame_ideal [Cert.Pre_rows_ok.Facts] : Cert.quiescent_KernelIdeal := fun m ρ hpre =>
  quiescent_ideal m ρ (fun d => (pre_rows _ _ _ _ _ _ _ _ _ (hpre d)).1) (fun d => (pre_rows _ _ _ _ _ _ _ _ _ (hpre d)).2)

/-- The same under the value claim's precondition. -/
theorem frame_ideal_pre [Cert.Pre_inputs_ok.Facts] : Cert.quiescent_KernelIdeal_pre_inputs_ok := fun m ρ hpre =>
  quiescent_ideal m ρ (fun d => (pre_words _ _ _ _ _ _ _ _ _ (hpre d)).1) (fun d => (pre_words _ _ _ _ _ _ _ _ _ (hpre d)).2.1)

/-- At the machine's floats a named constant is the constant that the program wrote. -/
local instance : Named Bits where
  named _ _ _ bits := FloatOps.ofBits _ bits

/-- The two programs' bodies are the same at the machine's floats. -/
theorem bodies_machine : Cert.KernelIdeal.defs₀ (F := Bits) = Cert.Kernel.defs₀ (F := Bits) := by
  funext p l a
  match p, l, a with
  | .tc, 0, _ => rfl
  | .tc, 1, _ => rfl
  | .scScalar _, 0, _ => rfl
  | .scScalar _, 1, _ => rfl
  | .scVector _ _, 0, _ => rfl
  | .scVector _ _, 1, _ => rfl

/-- So the two programs' definitions are the same at the machine's floats. -/
theorem defs_machine : Cert.KernelIdeal.defs (F := Bits) = Cert.Kernel.defs (F := Bits) :=
  congrArg (fun D => Cert.KernelIdeal.sc.defs (Pipeline.defs (Cert.KernelIdeal.pcfgs (F := Bits)) D)) bodies_machine

/-- The kernel's frame at the machine's floats. -/
theorem frame_machine [Cert.Pre_rows_ok.Facts] : Cert.quiescent_Kernel := fun m ρ hpre => by
  haveI : ∀ e, Nonempty (Elt Bits e) := fun e => by cases e <;> exact ⟨default⟩
  have run := run_args (F := Bits) m ρ (fun d => (pre_rows _ _ _ _ _ _ _ _ _ (hpre d)).1) (fun d => (pre_rows _ _ _ _ _ _ _ _ _ (hpre d)).2)
  rw [defs_machine] at run
  refine (θ_run (Cert.Kernel.defs (F := Bits)) (Cert.Kernel.threads (F := Bits)) _).mono ?_ run
  exact fun r h => ⟨h.2.1, h.2.2⟩

/-- The reference's frame. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The named constant rewrites the literal. -/
theorem preserves : Cert.preserves_Kernel_KernelIdeal :=
  IdealRules.named_const.statement Cert.KernelIdeal.κ "s" .f32 0x3BA3D70A#32 ((200⁻¹ : ℝ) : EReal) rfl

end Cert.Proof.Pool

end
-- ==== Proof.Terms.lean ====
/-
  The reference's result read as it is built: two dense layers over the sum of a user's embedding and the mean of the
  embeddings in the user's history, each row divided by its length. `res_eq` says the composed term is this.
-/
module

public import proofs.«01_k».proof.Proof.Gen.ReferenceIdeal.Run
public import proofs.«01_k».proof.Proof.Inputs
public import Idealize.ShloMosaic.Lib.Pointwise

@[expose] public section

noncomputable section

namespace Cert.Proof.Pool

open Cert.ReferenceIdeal Cert.ReferenceIdeal.Gen
open Idealize.ShloMosaic Idealize.ShloMosaic.TcCoe

/-- A dense layer: the rows against the transposed weights, and the bias added to each. -/
def layer (x : FVec Ideal S1024x128 .f32) (W : FVec Ideal S128x128 .f32) (b : FVec Ideal S128 .f32) : FVec Ideal S1024x128 .f32 :=
  addf (Host.dotGeneral dot_S1024x128_S128x128_S1024x128_1_0_0_1_n_n none x (transpose S128x128 [1, 0] W transposes_S128x128_S128x128_1_0))
    (broadcastInDim S1024x128 ![0, 1] bcast_S1x128_S1024x128_0_1 (broadcastInDim S1x128 ![1] bcast_S128_S1x128_1 b))

/-- Each entry's positive part. -/
def positive (x : FVec Ideal S1024x128 .f32) : FVec Ideal S1024x128 .f32 :=
  maximumf x (broadcastInDim S1024x128 ![] bcast_S_S1024x128 (constant S_ .f32 0x00000000#32))

/-- Each row divided by its length, or by the smallest length allowed. -/
def unit (o : FVec Ideal S1024x128 .f32) : FVec Ideal S1024x128 .f32 :=
  Host.divf o (broadcastInDim S1024x128 ![0, 1] bcast_S1024x1_S1024x128_0_1
    (maximumf (broadcastInDim S1024x1 ![] bcast_S_S1024x1 (id (constant S_ .f32 0x2B8CBCCC#32)))
      (Host.sqrt (broadcastInDim S1024x1 ![0] bcast_S1024_S1024x1_0
        (Host.reduceAdd (mulf o o) (constant S_ .f32 0x00000000#32) reducesTo_S1024x128_S1024_d1 h_S_)))))

/-- The user words as row numbers: a negative word counts from the end. -/
def userRows (w : IVec S1024 32) : IVec S1024x1 32 :=
  broadcastInDim S1024x1 ![0] bcast_S1024_S1024x1_0
    (select (cmpi .slt w (broadcastInDim S1024 ![] bcast_S_S1024 (constantI S_ 32 0#32)))
      (addi w (broadcastInDim S1024 ![] bcast_S_S1024 (constantI S_ 32 100000#32))) w)

/-- The users' embeddings; a row outside the table is filled. -/
def userTake (t : FVec Ideal S100000x128 .f32) (w : IVec S1024 32) : FVec Ideal S1024x128 .f32 :=
  select (broadcastInDim S1024x128 ![0] bcast_S1024_S1024x128_0
      (Host.reduce IntOp.andi (andi (cmpi .sge (userRows w) (broadcastInDim S1024x1 ![] bcast_S_S1024x1 (constantI S_ 32 0#32)))
        (cmpi .sle (userRows w) (broadcastInDim S1024x1 ![0, 1] bcast_S1x1_S1024x1_0_1 (broadcastInDim S1x1 ![1] bcast_S1_S1x1_1 (constantI S1 32 99999#32)))))
        (constantI S_ 1 1#1) reducesTo_S1024x1_S1024_d1 h_S_))
    (Host.gather gather_S100000x128_S1024x1_S1024x128_1_0_n_n_0_1_1128 t (userRows w))
    (broadcastInDim S1024x128 ![] bcast_S_S1024x128 (constant S_ .f32 0x7FC00000#32))

/-- The history words as row numbers: a negative word counts from the end. -/
def histRows (w : IVec S1024x200 32) : IVec S1024x200x1 32 :=
  broadcastInDim S1024x200x1 ![0, 1] bcast_S1024x200_S1024x200x1_0_1
    (select (cmpi .slt w (broadcastInDim S1024x200 ![] bcast_S_S1024x200 (constantI S_ 32 0#32)))
      (addi w (broadcastInDim S1024x200 ![] bcast_S_S1024x200 (constantI S_ 32 100000#32))) w)

/-- The histories' embeddings; a row outside the table is filled. -/
def histTake (t : FVec Ideal S100000x128 .f32) (w : IVec S1024x200 32) : FVec Ideal S1024x200x128 .f32 :=
  select (broadcastInDim S1024x200x128 ![0, 1] bcast_S1024x200_S1024x200x128_0_1
      (Host.reduce IntOp.andi (andi (cmpi .sge (histRows w) (broadcastInDim S1024x200x1 ![] bcast_S_S1024x200x1 (constantI S_ 32 0#32)))
        (cmpi .sle (histRows w) (broadcastInDim S1024x200x1 ![0, 1, 2] bcast_S1x1x1_S1024x200x1_0_1_2 (broadcastInDim S1x1x1 ![2] bcast_S1_S1x1x1_2 (constantI S1 32 99999#32)))))
        (constantI S_ 1 1#1) reducesTo_S1024x200x1_S1024x200_d2 h_S_))
    (Host.gather gather_S100000x128_S1024x200x1_S1024x200x128_2_0_n_n_0_2_1128 t (histRows w))
    (broadcastInDim S1024x200x128 ![] bcast_S_S1024x200x128 (constant S_ .f32 0x7FC00000#32))

/-- The mean of the entries the mask weighs. -/
def maskedMean (e : FVec Ideal S1024x200x128 .f32) (k : FVec Ideal S1024x200 .f32) : FVec Ideal S1024x128 .f32 :=
  Host.divf (Host.reduceAdd (mulf e (broadcastInDim S1024x200x128 ![0, 1, 2] bcast_S1024x200x1_S1024x200x128_0_1_2
      (broadcastInDim S1024x200x1 ![0, 1] bcast_S1024x200_S1024x200x1_0_1 k))) (constant S_ .f32 0x00000000#32) reducesTo_S1024x200x128_S1024x128_d1 h_S_)
    (broadcastInDim S1024x128 ![0, 1] bcast_S1024x1_S1024x128_0_1
      (maximumf (broadcastInDim S1024x1 ![] bcast_S_S1024x1 (id (constant S_ .f32 0x3F800000#32)))
        (Host.reduceAdd (broadcastInDim S1024x200x1 ![0, 1] bcast_S1024x200_S1024x200x1_0_1 k) (constant S_ .f32 0x00000000#32) reducesTo_S1024x200x1_S1024x1_d1 h_S_)))

set_option maxRecDepth 8192 in
/-- The reference's composed term is these steps of its arguments. -/
theorem res_eq (m : (ℓ : Loc nD τ sig) → Buf (Elt Ideal) ℓ) (c : Dev nD) :
    Cert.ReferenceIdeal.Value.res_main_v25 (F := Ideal) m c
      = unit (layer (positive (layer (addf (userTake (m ((c.tc : Thread nD τ).loc main_arg3)) (m ((c.tc : Thread nD τ).loc main_arg0)))
          (maskedMean (histTake (m ((c.tc : Thread nD τ).loc main_arg4)) (m ((c.tc : Thread nD τ).loc main_arg1))) (m ((c.tc : Thread nD τ).loc main_arg2))))
          (m ((c.tc : Thread nD τ).loc main_arg5)) (m ((c.tc : Thread nD τ).loc main_arg6))))
          (m ((c.tc : Thread nD τ).loc main_arg7)) (m ((c.tc : Thread nD τ).loc main_arg8))) := rfl

/-- A layer at an index. -/
theorem layer_apply (x : FVec Ideal S1024x128 .f32) (W : FVec Ideal S128x128 .f32) (b : FVec Ideal S128 .f32) (r : Fin 1024) (l : Fin 128) :
    layer x W b (ix2 r l) = (∑ k : Fin 128, x (ix2 r k) * W (ix2 l k)) + b (ix1 l) := by
  pointwise [layer]

/-- The positive part at an index. -/
theorem positive_apply (x : FVec Ideal S1024x128 .f32) (r : Fin 1024) (l : Fin 128) : positive x (ix2 r l) = max (x (ix2 r l)) 0 := by
  pointwise [positive]

/-- A row divided by its length, at an index. -/
theorem unit_apply (o : FVec Ideal S1024x128 .f32) (r : Fin 1024) (l : Fin 128) :
    unit o (ix2 r l) = Ideal.div (o (ix2 r l)) (max (Ideal.ofBits .f32 0x2B8CBCCC#32) (Ideal.sqrt (∑ k : Fin 128, o (ix2 r k) * o (ix2 r k)))) := by
  pointwise [unit]
  rfl

/-- The word of the float one stands for one. -/
theorem one_bits : Ideal.ofBits .f32 0x3F800000#32 = 1 := by
  simp [Ideal.ofBits, Ideal.ieee, -EReal.coe_mul]
  norm_num

/-- The masked mean at an index. -/
theorem maskedMean_apply (e : FVec Ideal S1024x200x128 .f32) (k : FVec Ideal S1024x200 .f32) (r : Fin 1024) (l : Fin 128) :
    maskedMean e k (ix2 r l) = Ideal.div (∑ i : Fin 200, e (ix3 r i l) * k (ix2 r i)) (max 1 (∑ i : Fin 200, k (ix2 r i))) := by
  pointwise [maskedMean]
  exact congrArg (fun a => Ideal.div _ (max a _)) one_bits

/-- A word below the table's length is not negative, and is its own value. -/
theorem small_word (w : BitVec 32) (h : w.toNat < 100000) :
    IntOp.cmpi .slt w 0#32 = 0#1 ∧ IntOp.cmpi .sge w 0#32 = 1#1 ∧ IntOp.cmpi .sle w 99999#32 = 1#1 ∧ min w.toInt.toNat 99999 = w.toNat := by
  have e := BitVec.toInt_eq_toNat_cond w
  have l := w.isLt
  have i : w.toInt = w.toNat := by split at e <;> omega
  clear e
  refine ⟨?_, ?_, ?_, by omega⟩
  · have a : w.slt 0#32 = false := by rw [BitVec.slt_eq_decide, decide_eq_false_iff_not, i, show (0#32 : BitVec 32).toInt = 0 by decide]; omega
    exact congrArg BitVec.ofBool a
  · have a : (0#32 : BitVec 32).sle w = true := by rw [BitVec.sle_eq_decide, decide_eq_true_eq, i, show (0#32 : BitVec 32).toInt = 0 by decide]; omega
    exact congrArg BitVec.ofBool a
  · have a : w.sle 99999#32 = true := by rw [BitVec.sle_eq_decide, decide_eq_true_eq, i, show (99999#32 : BitVec 32).toInt = 99999 by decide]; omega
    exact congrArg BitVec.ofBool a

/-- A user word in range is its own row number. -/
theorem userRows_apply (w : IVec S1024 32) (r : Fin 1024) (o : Fin 1) (h : (w (ix1 r)).toNat < 100000) : userRows w (ix2 r o) = w (ix1 r) := by
  pointwise [userRows]
  rw [(small_word _ h).1]
  rfl

/-- A history word in range is its own row number. -/
theorem histRows_apply (w : IVec S1024x200 32) (r : Fin 1024) (i : Fin 200) (o : Fin 1) (h : (w (ix2 r i)).toNat < 100000) :
    histRows w (ix3 r i o) = w (ix2 r i) := by
  pointwise [histRows]
  rw [(small_word _ h).1]
  rfl

/-- A row gathered for a user: the start clamped into the table, the whole row taken. -/
theorem userGather_apply (t : FVec Ideal S100000x128 .f32) (w : IVec S1024x1 32) (r : Fin 1024) (l : Fin 128) (h : (w (ix2 r 0)).toNat < 100000) :
    Host.gather gather_S100000x128_S1024x1_S1024x128_1_0_n_n_0_1_1128 t w (ix2 r l) = t (ix2 ⟨(w (ix2 r 0)).toNat, h⟩ l) := by
  refine congrArg t (funext fun a => Fin.ext ?_)
  show GatherDims.start _ (ix2 r l) w a + GatherDims.batchCoord _ (ix2 r l) a + GatherDims.offCoord _ (ix2 r l) a = _
  rw [GatherDims.batchCoord_eq_zero _ _ _ List.not_mem_nil]
  have o : a = 0 ∨ a = 1 := by
    match a with
    | ⟨0, _⟩ => exact .inl rfl
    | ⟨1, _⟩ => exact .inr rfl
  rcases o with rfl | rfl
  · rw [GatherDims.offCoord_eq_zero _ _ _ (fun h => ((GatherDims.mem_sKept _ _).mp h).1 (List.mem_singleton.mpr rfl))]
    unfold GatherDims.start
    rw [dif_pos (show (0 : Fin 2) ∈ GatherDims.startIndexMap gather_S100000x128_S1024x1_S1024x128_1_0_n_n_0_1_1128 from List.mem_singleton.mpr rfl)]
    have e : GatherDims.siIdx gather_S100000x128_S1024x1_S1024x128_1_0_n_n_0_1_1128 (ix2 r l) ⟨List.idxOf (0 : Fin 2) [0], by decide⟩ = ix2 r 0 := by
      funext b
      match b with
      | ⟨0, _⟩ => rfl
      | ⟨1, _⟩ => rfl
    exact (congrArg (fun i => min (w i).toInt.toNat 99999) e).trans (small_word _ h).2.2.2
  · rw [show GatherDims.start gather_S100000x128_S1024x1_S1024x128_1_0_n_n_0_1_1128 (ix2 r l) w 1 = 0 from by unfold GatherDims.start; rw [dif_neg (by decide)]]
    unfold GatherDims.offCoord
    rw [dif_pos (show (1 : Fin 2) ∈ GatherDims.sKept gather_S100000x128_S1024x1_S1024x128_1_0_n_n_0_1_1128 by decide)]
    exact Nat.zero_add _

/-- A row gathered for an entry of a history. -/
theorem histGather_apply (t : FVec Ideal S100000x128 .f32) (w : IVec S1024x200x1 32) (r : Fin 1024) (i : Fin 200) (l : Fin 128) (h : (w (ix3 r i 0)).toNat < 100000) :
    Host.gather gather_S100000x128_S1024x200x1_S1024x200x128_2_0_n_n_0_2_1128 t w (ix3 r i l) = t (ix2 ⟨(w (ix3 r i 0)).toNat, h⟩ l) := by
  refine congrArg t (funext fun a => Fin.ext ?_)
  show GatherDims.start _ (ix3 r i l) w a + GatherDims.batchCoord _ (ix3 r i l) a + GatherDims.offCoord _ (ix3 r i l) a = _
  rw [GatherDims.batchCoord_eq_zero _ _ _ List.not_mem_nil]
  have o : a = 0 ∨ a = 1 := by
    match a with
    | ⟨0, _⟩ => exact .inl rfl
    | ⟨1, _⟩ => exact .inr rfl
  rcases o with rfl | rfl
  · rw [GatherDims.offCoord_eq_zero _ _ _ (fun h => ((GatherDims.mem_sKept _ _).mp h).1 (List.mem_singleton.mpr rfl))]
    unfold GatherDims.start
    rw [dif_pos (show (0 : Fin 2) ∈ GatherDims.startIndexMap gather_S100000x128_S1024x200x1_S1024x200x128_2_0_n_n_0_2_1128 from List.mem_singleton.mpr rfl)]
    have e : GatherDims.siIdx gather_S100000x128_S1024x200x1_S1024x200x128_2_0_n_n_0_2_1128 (ix3 r i l) ⟨List.idxOf (0 : Fin 2) [0], by decide⟩ = ix3 r i 0 := by
      funext b
      match b with
      | ⟨0, _⟩ => rfl
      | ⟨1, _⟩ => rfl
      | ⟨2, _⟩ => rfl
    exact (congrArg (fun i => min (w i).toInt.toNat 99999) e).trans (small_word _ h).2.2.2
  · rw [show GatherDims.start gather_S100000x128_S1024x200x1_S1024x200x128_2_0_n_n_0_2_1128 (ix3 r i l) w 1 = 0 from by unfold GatherDims.start; rw [dif_neg (by decide)]]
    unfold GatherDims.offCoord
    rw [dif_pos (show (1 : Fin 2) ∈ GatherDims.sKept gather_S100000x128_S1024x200x1_S1024x200x128_2_0_n_n_0_2_1128 by decide)]
    exact Nat.zero_add _

/-- A user's embedding is the row that the word names. -/
theorem userTake_apply (t : FVec Ideal S100000x128 .f32) (w : IVec S1024 32) (r : Fin 1024) (l : Fin 128) (h : (w (ix1 r)).toNat < 100000) :
    userTake t w (ix2 r l) = t (ix2 ⟨(w (ix1 r)).toNat, h⟩ l) := by
  have e := userRows_apply w r 0 h
  pointwise [userTake]
  rw [Finset.univ_unique, Finset.fold_singleton, show (default : Fin 1) = 0 from rfl, e, (small_word _ h).2.1, (small_word _ h).2.2.1,
    userGather_apply t _ r l (e ▸ h)]
  exact congrArg (fun n => t (ix2 n l)) (Fin.ext (congrArg BitVec.toNat e))

/-- A history entry's embedding is the row that the word names. -/
theorem histTake_apply (t : FVec Ideal S100000x128 .f32) (w : IVec S1024x200 32) (r : Fin 1024) (i : Fin 200) (l : Fin 128) (h : (w (ix2 r i)).toNat < 100000) :
    histTake t w (ix3 r i l) = t (ix2 ⟨(w (ix2 r i)).toNat, h⟩ l) := by
  have e := histRows_apply w r i 0 h
  pointwise [histTake]
  rw [Finset.univ_unique, Finset.fold_singleton, show (default : Fin 1) = 0 from rfl, e, (small_word _ h).2.1, (small_word _ h).2.2.1,
    histGather_apply t _ r i l (e ▸ h)]
  exact congrArg (fun n => t (ix2 n l)) (Fin.ext (congrArg BitVec.toNat e))

end Cert.Proof.Pool

end
-- ==== Proof.Dense.lean ====
/-
  The dense layers over the extended reals: what the staged body computes is the reference's two layers and the division
  of each row by its length.
-/
module

public import proofs.«01_k».proof.Proof.Region
public import proofs.«01_k».proof.Proof.Terms

@[expose] public section

noncomputable section

namespace Cert.Proof.Pool

open Cert.KernelIdeal Cert.KernelIdeal.Gen
open Idealize.ShloMosaic

/-- The body, given the biases as rows, computes the two layers and the normalisation of the reference. -/
theorem body_eq (x : FVec Ideal S1024x128 .f32) (W1 W2 : FVec Ideal S128x128 .f32) (b1 b2 : FVec Ideal S128 .f32) :
    k1_pay1 (F := Ideal) x W1 (shapeCast S1x128 b1 shapeCasts_S128_S1x128) W2 (shapeCast S1x128 b2 shapeCasts_S128_S1x128)
      = unit (layer (positive (layer x W1 b1)) W2 b2) := by
  funext j
  obtain ⟨r, l, rfl⟩ : ∃ r l, j = ix2 r l := ⟨j 0, j 1, eq_ix2 j⟩
  rw [unit_apply]
  simp only [layer_apply, positive_apply]
  pointwise [k1_pay1]
  exact congrArg (Ideal.div _) (max_comm _ _)

end Cert.Proof.Pool

end
-- ==== Proof.Value.lean ====
/-
  The value claim over the extended reals: the sum of two hundred rows, taken in two halves one row after the other and
  times the two-hundredth, is the masked mean where every mask entry is one; so the array the tasks leave is what the
  reference feeds its dense layers, and the results agree.
-/
module

public import proofs.«01_k».proof.Proof.Frames
public import proofs.«01_k».proof.Proof.Dense

@[expose] public section

noncomputable section

namespace Cert.Proof.Pool

open Cert.KernelIdeal Cert.KernelIdeal.Gen
open Idealize.ShloMosaic Idealize.ShloMosaic.TcCoe
open Idealize.SL.Sem

/-! ## The sum of the rows -/

/-- Adding rows one after the other is adding their sum. -/
theorem addRows_eq (f : S100x128.Idx → Ideal .f32) (g : Fin 128 → Ideal .f32) (l : Fin 128) :
    addRows f g 100 l = (g l : EReal) + ∑ i : Fin 100, (f (ix100 i l) : EReal) := by
  have s (n : ℕ) : addRows f g n l = (g l : EReal) + ∑ i ∈ Finset.range n, (if h : i < 100 then (f (ix100 ⟨i, h⟩ l) : EReal) else g l) := by
    induction n with
    | zero => exact (add_zero _).symm
    | succ n ih => rw [Finset.sum_range_succ, ← add_assoc, ← ih]; rfl
  rw [s, Finset.sum_range]
  exact congrArg (_ + ·) (Finset.sum_congr rfl fun i _ => dif_pos i.isLt)

/-- The words in rows of a hundred: the `h`-th hundred of row `b`. -/
theorem words_half (w : S1024x200.Idx → BitVec 32) (b : Fin 1024) (h : Fin 2) (i : Fin 100) (j : Fin 200) (hj : j.val = 100 * h.val + i.val) :
    shapeCast S2048x100 w shapeCasts_S1024x200_S2048x100 (ixW (halfB b h) i) = w (ix2 b j) := by
  refine shapeCast_apply _ _ _ _ ?_
  rw [rowMajor_val2 _ 200 rfl, rowMajor_val2 _ 100 rfl]
  show b.val * 200 + j.val = (2 * b.val + h.val) * 100 + i.val
  omega

/-- A table's index by row and column. -/
theorem ixT_eq (r : Fin 100000) (l : Fin 128) : ixT r l = ix2 r l := by
  funext a
  match a with
  | ⟨0, _⟩ => rfl
  | ⟨1, _⟩ => rfl

/-- A word in range names its own row. -/
theorem rowOf_eq (w : BitVec 32) (h : w.toNat < 100000) : rowOf w = ⟨w.toNat, h⟩ := Fin.ext (Nat.mod_eq_of_lt h)

/-- An index of the user words. -/
theorem ids_eq (b : Fin 1024) : (ix1 b : S1024.Idx) = Idealize.ShloMosaic.ix1 b := by
  funext a
  match a with
  | ⟨0, _⟩ => rfl

/-- What the tasks leave at row `b`, column `l`. -/
theorem pooled_eq (u t : S100000x128.Idx → Ideal .f32) (ids : S1024.Idx → BitVec 32) (w : S1024x200.Idx → BitVec 32)
    (h0 : ∀ x, (ids x).toNat < 100000) (h1 : ∀ x, (w x).toNat < 100000) (b : Fin 1024) (l : Fin 128) :
    pooled u t ids (shapeCast S2048x100 w shapeCasts_S1024x200_S2048x100) b l
      = (u (ix2 ⟨(ids (Idealize.ShloMosaic.ix1 b)).toNat, h0 _⟩ l) : EReal)
        + (∑ i : Fin 200, (t (ix2 ⟨(w (ix2 b i)).toNat, h1 _⟩ l) : EReal)) * ((200⁻¹ : ℝ) : EReal) := by
  have n : (Named.named (F := Ideal) κ "s" (φ := .f32) 0x3BA3D70A#32 : EReal) = ((200⁻¹ : ℝ) : EReal) :=
    IdealRules.named_const.ideal_named_scalar _ _ _ _ rfl
  have e (h : Fin 2) (i : Fin 100) (j : Fin 200) (hj : j.val = 100 * h.val + i.val) :
      gatF t (fun i => shapeCast S2048x100 w shapeCasts_S1024x200_S2048x100 (ixW (halfB b h) i)) (ix100 i l)
        = t (ix2 ⟨(w (ix2 b j)).toNat, h1 _⟩ l) := by
    show t (ixT (rowOf (shapeCast S2048x100 w shapeCasts_S1024x200_S2048x100 (ixW (halfB b h) i))) l) = _
    rw [words_half w b h i j hj, rowOf_eq _ (h1 _), ixT_eq]
  unfold pooled
  rw [addRows_eq, addRows_eq, n, ids_eq, rowOf_eq _ (h0 _), ixT_eq]
  show (_ : EReal) + (((zrow l : Ideal .f32) : EReal) + _ + _) * _ = _
  have z : ((zrow (F := Ideal) l : Ideal .f32) : EReal) = 0 := by
    show Ideal.ofBits .f32 0x00000000#32 = 0
    simp [Ideal.ofBits, Ideal.ieee]
  rw [z, zero_add, show (∑ i : Fin 200, (t (ix2 ⟨(w (ix2 b i)).toNat, h1 _⟩ l) : EReal)) = _ from Fin.sum_univ_add (a := 100) (b := 100) _]
  refine congrArg (fun s : EReal => (_ : EReal) + s * _) (congrArg₂ (· + ·) (Finset.sum_congr rfl fun i _ => ?_) (Finset.sum_congr rfl fun i _ => ?_))
  · exact e 0 i (Fin.castAdd 100 i) (by simp)
  · exact e 1 i (Fin.natAdd 100 i) (by simp [Nat.add_comm])

/-! ## The mean -/

/-- A mask entry that compares equal to one is one. -/
theorem mask_one (x : Ideal .f32) (h : FloatOps.cmpf .oeq x (Scalar.ofBits .f32 0x3F800000#32) = 1#1) : (x : EReal) = 1 := by
  have e : Ideal.cmp .oeq x (Ideal.ofBits .f32 0x3F800000#32) = 1#1 := h
  rw [one_bits] at e
  exact of_decide_eq_true (ofBool_one _ e)

/-- The masked mean where the mask is one. -/
theorem mean_eq (e : FVec Ideal Cert.ReferenceIdeal.S1024x200x128 .f32) (k : FVec Ideal Cert.ReferenceIdeal.S1024x200 .f32)
    (hk : ∀ x, (k x : EReal) = 1) (b : Fin 1024) (l : Fin 128) :
    maskedMean e k (ix2 b l) = (∑ i : Fin 200, (e (ix3 b i l) : EReal)) * ((200⁻¹ : ℝ) : EReal) := by
  have s : (∑ i : Fin 200, (k (ix2 b i) : EReal)) = ((200 : ℝ) : EReal) := by
    rw [Finset.sum_congr rfl fun i _ => hk _]
    simp
    rfl
  have x : max (1 : EReal) ((200 : ℝ) : EReal) = ((200 : ℝ) : EReal) := max_eq_right (by exact_mod_cast (by norm_num : (1 : ℝ) ≤ 200))
  rw [maskedMean_apply, s, x, Ideal.div_coe (by norm_num), one_div]
  exact congrArg (· * _) (Finset.sum_congr rfl fun i _ => by rw [hk, mul_one])

/-- What the tasks leave is what the reference feeds its dense layers. -/
theorem combined_eq (u t : S100000x128.Idx → Ideal .f32) (ids : S1024.Idx → BitVec 32) (w : S1024x200.Idx → BitVec 32) (k : S1024x200.Idx → Ideal .f32)
    (h0 : ∀ x, (ids x).toNat < 100000) (h1 : ∀ x, (w x).toNat < 100000) (hk : ∀ x, (k x : EReal) = 1) :
    (fun x : S1024x128.Idx => pooled u t ids (shapeCast S2048x100 w shapeCasts_S1024x200_S2048x100) (x 0) (x 1))
      = addf (userTake u ids) (maskedMean (histTake t w) k) := by
  funext j
  obtain ⟨b, l, rfl⟩ : ∃ b l, j = ix2 b l := ⟨j 0, j 1, eq_ix2 j⟩
  refine (pooled_eq u t ids w h0 h1 b l).trans ?_
  show _ = (userTake u ids (ix2 b l) : EReal) + (maskedMean (histTake t w) k (ix2 b l) : EReal)
  rw [mean_eq _ _ hk, userTake_apply u ids b l (h0 _)]
  exact congrArg (fun s : EReal => (_ : EReal) + s * _) (Finset.sum_congr rfl fun i _ => (histTake_apply t w b i l (h1 _)).symm)

/-! ## The claims -/

section
variable (m : (ℓ : Loc nD τ sig) → Buf (Elt Ideal) ℓ)

/-- An array that neither the reshape nor the tasks write. -/
theorem V2_unwritten (d : Dev nD) {b : DevRef τ sig} (h : b ∉ ({(main_v0 : DevRef τ sig)} : Finset (DevRef τ sig))) (h' : b ≠ (main_v1 : DevRef τ sig)) : V2 m d b = m (d, b) :=
  (V2_of_ne m d h').trans (V1_of_ne m d h)

/-- The bias rows as the dense layers meet them. -/
theorem bias1 (d : Dev nD) : (V4 m d (main_v2 : DevRef τ sig) : S1x128.Idx → Ideal .f32)
    = shapeCast S1x128 (m (d, (main_arg6 : DevRef τ sig)) : S128.Idx → Ideal .f32) shapeCasts_S128_S1x128 := by
  refine (V4_of_ne m d (b := main_v2) (by decide)).trans ((StableHlo.reshape_result (F := V2 m d) _ _ _ _ _ _).trans ?_)
  exact congrArg (fun v : S128.Idx → Ideal .f32 => shapeCast S1x128 v shapeCasts_S128_S1x128) (V2_unwritten m d (b := main_arg6) (by decide) (by decide))

/-- The second bias likewise. -/
theorem bias2 (d : Dev nD) : (V4 m d (main_v3 : DevRef τ sig) : S1x128.Idx → Ideal .f32)
    = shapeCast S1x128 (m (d, (main_arg8 : DevRef τ sig)) : S128.Idx → Ideal .f32) shapeCasts_S128_S1x128 := by
  refine (StableHlo.reshape_result (F := V3 m d) _ _ _ _ _ _).trans ?_
  exact congrArg (fun v : S128.Idx → Ideal .f32 => shapeCast S1x128 v shapeCasts_S128_S1x128)
    ((V3_of_ne m d (b := main_arg8) (by decide)).trans (V2_unwritten m d (b := main_arg8) (by decide) (by decide)))

/-- The tasks' array as the dense layers meet it. -/
theorem sums (d : Dev nD) : (V4 m d (main_v1 : DevRef τ sig) : S1024x128.Idx → Ideal .f32)
    = (fun x : S1024x128.Idx => pooled (F := Ideal) (m (d, (main_arg3 : DevRef τ sig))) (m (d, (main_arg4 : DevRef τ sig))) (m (d, (main_arg0 : DevRef τ sig)))
        (shapeCast S2048x100 (m (d, (main_arg1 : DevRef τ sig)) : S1024x200.Idx → BitVec 32) shapeCasts_S1024x200_S2048x100) (x 0) (x 1) : S1024x128.Idx → Ideal .f32) := by
  refine (V4_of_ne m d (b := main_v1) (by decide)).trans ((V3_of_ne m d (b := main_v1) (by decide)).trans ((V2_out m d).trans ?_))
  unfold summed
  rw [V1_words, V1_of_ne m d (b := main_arg3) (by decide), V1_of_ne m d (b := main_arg4) (by decide), V1_of_ne m d (b := main_arg0) (by decide)]

/-- The result's array is the reference's term of the arguments. -/
theorem dense_eq (d : Dev nD) (h0 : ∀ x : S1024.Idx, ((m (d, (main_arg0 : DevRef τ sig)) : S1024.Idx → BitVec 32) x).toNat < 100000)
    (h1 : ∀ x : S1024x200.Idx, ((m (d, (main_arg1 : DevRef τ sig)) : S1024x200.Idx → BitVec 32) x).toNat < 100000)
    (hk : ∀ x : S1024x200.Idx, @Eq EReal ((m (d, (main_arg2 : DevRef τ sig)) : S1024x200.Idx → Ideal .f32) x) 1) :
    dense (Vr m) d = unit (layer (positive (layer (addf (userTake (m (d, (main_arg3 : DevRef τ sig))) (m (d, (main_arg0 : DevRef τ sig))))
        (maskedMean (histTake (m (d, (main_arg4 : DevRef τ sig))) (m (d, (main_arg1 : DevRef τ sig)))) (m (d, (main_arg2 : DevRef τ sig)))))
        (m (d, (main_arg5 : DevRef τ sig))) (m (d, (main_arg6 : DevRef τ sig)))))
        (m (d, (main_arg7 : DevRef τ sig))) (m (d, (main_arg8 : DevRef τ sig)))) := by
  unfold dense
  rw [stg0_eq, stg1_eq, stg2_eq, stg3_eq, stg4_eq]
  have e1 : Vr m d main_v1 = _ := (sums m d).trans (combined_eq _ _ _ _ _ h0 h1 hk)
  have e2 : Vr m d main_arg5 = _ := V4_unwritten m d (b := main_arg5) (by decide)
  have e3 : Vr m d main_v2 = _ := bias1 m d
  have e4 : Vr m d main_arg7 = _ := V4_unwritten m d (b := main_arg7) (by decide)
  have e5 : Vr m d main_v3 = _ := bias2 m d
  rw [e1, e2, e3, e4, e5]
  exact body_eq _ _ _ _ _

end

/-- The reference's frame under the value claim's precondition. -/
theorem frame_reference_pre [Cert.Pre_inputs_ok.Facts] : Cert.quiescent_ReferenceIdeal_pre_inputs_ok := fun m ρ _ => frame_reference m ρ trivial

/-- The kernel and the reference compute the same function over the extended reals. -/
theorem algebraic [Cert.Pre_inputs_ok.Facts] : Cert.algebraic_KernelIdeal_ReferenceIdeal_pre_inputs_ok := by
  intro m ρ m' ρ' hpre hagree
  haveI : ∀ e, Nonempty (Elt Ideal e) := fun e => by cases e <;> exact ⟨default⟩
  have w d := pre_words _ _ _ _ _ _ _ _ _ (hpre d)
  refine ⟨fun c => dense (Vr m) c, ?_, ?_⟩
  · refine (θ_run (Cert.KernelIdeal.defs (F := Ideal)) _ _).mono ?_ (run_args m ρ (fun d => (w d).1) (fun d => (w d).2.1))
    exact fun r h c => ⟨h.1 c, h.2.1 c⟩
  · refine (θ_run Cert.ReferenceIdeal.defs _ _).mono ?_ (Cert.ReferenceIdeal.Value.run (F := Ideal) m' ρ')
    intro r h c
    obtain ⟨a0, a1, a2, a3, a4, a5, a6, a7, a8⟩ := hagree c
    refine ⟨(h c).1.trans ?_, (h c).2⟩
    rw [res_eq, a0, a1, a2, a3, a4, a5, a6, a7, a8]
    exact (dense_eq m c (w c).1 (w c).2.1 fun x => mask_one _ ((w c).2.2 x)).symm

end Cert.Proof.Pool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_rows_ok
public import proofs.«01_k».proof.Proof.Gen.Pre_inputs_ok
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_rows_ok.Gen.facts, Cert.Pre_inputs_ok.Gen.facts,
  Pool.frame_machine, Pool.frame_ideal, Pool.frame_ideal_pre, Pool.frame_reference, Pool.frame_reference_pre, Pool.preserves, Pool.algebraic⟩

end Cert.Proof

end
